-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v131)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v131) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v541) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S100000x3 : Shape := ⟨2, ![100000, 3]⟩
abbrev S100000x4 : Shape := ⟨2, ![100000, 4]⟩
abbrev S100000 : Shape := ⟨1, ![100000]⟩
abbrev S100000x16x3 : Shape := ⟨3, ![100000, 16, 3]⟩
abbrev S4x4 : Shape := ⟨2, ![4, 4]⟩
abbrev S3 : Shape := ⟨1, ![3]⟩
abbrev S3x100000 : Shape := ⟨2, ![3, 100000]⟩
abbrev S_ : Shape := ⟨0, ![]⟩
abbrev S3x100352 : Shape := ⟨2, ![3, 100352]⟩
abbrev S4x100000 : Shape := ⟨2, ![4, 100000]⟩
abbrev S4x100352 : Shape := ⟨2, ![4, 100352]⟩
abbrev S1x100000 : Shape := ⟨2, ![1, 100000]⟩
abbrev S1x100352 : Shape := ⟨2, ![1, 100352]⟩
abbrev S16x3x100000 : Shape := ⟨3, ![16, 3, 100000]⟩
abbrev S48x100000 : Shape := ⟨2, ![48, 100000]⟩
abbrev S48x100352 : Shape := ⟨2, ![48, 100352]⟩
abbrev S64x100352 : Shape := ⟨2, ![64, 100352]⟩
abbrev S3x3 : Shape := ⟨2, ![3, 3]⟩
abbrev S8x128 : Shape := ⟨2, ![8, 128]⟩
abbrev S9 : Shape := ⟨1, ![9]⟩
abbrev S3x1 : Shape := ⟨2, ![3, 1]⟩
abbrev S15 : Shape := ⟨1, ![15]⟩
abbrev S1 : Shape := ⟨1, ![1]⟩
abbrev S2 : Shape := ⟨1, ![2]⟩
abbrev S16x100352 : Shape := ⟨2, ![16, 100352]⟩
abbrev S64x2048 : Shape := ⟨2, ![64, 2048]⟩
abbrev S16x2048 : Shape := ⟨2, ![16, 2048]⟩
abbrev S1x2048 : Shape := ⟨2, ![1, 2048]⟩
abbrev S1x1 : Shape := ⟨2, ![1, 1]⟩
abbrev S100352 : Shape := ⟨1, ![100352]⟩
abbrev S256 : Shape := ⟨1, ![256]⟩
abbrev S256x1 : Shape := ⟨2, ![256, 1]⟩
abbrev S256x100352 : Shape := ⟨2, ![256, 100352]⟩
abbrev S256x64 : Shape := ⟨2, ![256, 64]⟩
abbrev S16384 : Shape := ⟨1, ![16384]⟩
abbrev S16384x1 : Shape := ⟨2, ![16384, 1]⟩
abbrev S16x16384 : Shape := ⟨2, ![16, 16384]⟩
abbrev S16x256x64 : Shape := ⟨3, ![16, 256, 64]⟩
abbrev S1x256x64 : Shape := ⟨3, ![1, 256, 64]⟩
abbrev S256x64x1 : Shape := ⟨3, ![256, 64, 1]⟩
abbrev S256x64x12 : Shape := ⟨3, ![256, 64, 12]⟩
abbrev S256x64x16 : Shape := ⟨3, ![256, 64, 16]⟩
abbrev S256x3x256 : Shape := ⟨3, ![256, 3, 256]⟩
abbrev S1x64x16 : Shape := ⟨3, ![1, 64, 16]⟩
abbrev S1x3x256 : Shape := ⟨3, ![1, 3, 256]⟩
abbrev S64x16 : Shape := ⟨2, ![64, 16]⟩
abbrev S64x1 : Shape := ⟨2, ![64, 1]⟩
abbrev S1x256 : Shape := ⟨2, ![1, 256]⟩
abbrev S64x256 : Shape := ⟨2, ![64, 256]⟩
abbrev S63x256 : Shape := ⟨2, ![63, 256]⟩
abbrev S2x256 : Shape := ⟨2, ![2, 256]⟩
abbrev S62x256 : Shape := ⟨2, ![62, 256]⟩
abbrev S4x256 : Shape := ⟨2, ![4, 256]⟩
abbrev S60x256 : Shape := ⟨2, ![60, 256]⟩
abbrev S8x256 : Shape := ⟨2, ![8, 256]⟩
abbrev S56x256 : Shape := ⟨2, ![56, 256]⟩
abbrev S16x256 : Shape := ⟨2, ![16, 256]⟩
abbrev S48x256 : Shape := ⟨2, ![48, 256]⟩
abbrev S32x256 : Shape := ⟨2, ![32, 256]⟩
abbrev S1x1x256 : Shape := ⟨3, ![1, 1, 256]⟩
abbrev S16x16x3x16x16 : Shape := ⟨5, ![16, 16, 3, 16, 16]⟩
abbrev S16x16x16x16x3 : Shape := ⟨5, ![16, 16, 16, 16, 3]⟩
abbrev S256x256x3 : Shape := ⟨3, ![256, 256, 3]⟩

abbrev nBuf : Space → Nat
  | .hbm => 212
  | .vmem => 9
  | .smem => 0
  | _ => 0

abbrev hbmTy0_0 (i : Nat) : BufTy := match i % 128 with
  | 0 => ⟨S100000x3, .f32⟩
  | 1 => ⟨S100000x3, .f32⟩
  | 2 => ⟨S100000x4, .f32⟩
  | 3 => ⟨S100000, .f32⟩
  | 4 => ⟨S100000x16x3, .f32⟩
  | 5 => ⟨S4x4, .f32⟩
  | 6 => ⟨S3, .f32⟩
  | 7 => ⟨S3x100000, .f32⟩
  | 8 => ⟨S_, .i32⟩
  | 9 => ⟨S_, .f32⟩
  | 10 => ⟨S3x100352, .f32⟩
  | 11 => ⟨S3x100000, .f32⟩
  | 12 => ⟨S_, .i32⟩
  | 13 => ⟨S_, .f32⟩
  | 14 => ⟨S3x100352, .f32⟩
  | 15 => ⟨S4x100000, .f32⟩
  | 16 => ⟨S_, .i32⟩
  | 17 => ⟨S_, .f32⟩
  | 18 => ⟨S4x100352, .f32⟩
  | 19 => ⟨S1x100000, .f32⟩
  | 20 => ⟨S_, .i32⟩
  | 21 => ⟨S_, .f32⟩
  | 22 => ⟨S1x100352, .f32⟩
  | 23 => ⟨S_, .f32⟩
  | 24 => ⟨S1x100000, .f32⟩
  | 25 => ⟨S_, .i32⟩
  | 26 => ⟨S_, .f32⟩
  | 27 => ⟨S1x100352, .f32⟩
  | 28 => ⟨S16x3x100000, .f32⟩
  | 29 => ⟨S48x100000, .f32⟩
  | 30 => ⟨S_, .i32⟩
  | 31 => ⟨S_, .f32⟩
  | 32 => ⟨S48x100352, .f32⟩
  | 33 => ⟨S_, .f32⟩
  | 34 => ⟨S4x100352, .f32⟩
  | 35 => ⟨S64x100352, .f32⟩
  | 36 => ⟨S3x3, .f32⟩
  | 37 => ⟨S_, .f32⟩
  | 38 => ⟨S8x128, .f32⟩
  | 39 => ⟨S9, .f32⟩
  | 40 => ⟨S3x1, .f32⟩
  | 41 => ⟨S3, .f32⟩
  | 42 => ⟨S15, .f32⟩
  | 43 => ⟨S_, .i32⟩
  | 44 => ⟨S1, .i32⟩
  | 45 => ⟨S_, .i32⟩
  | 46 => ⟨S1, .i32⟩
  | 47 => ⟨S2, .i32⟩
  | 48 => ⟨S8x128, .f32⟩
  | 49 => ⟨S16x100352, .f32⟩
  | 50 => ⟨S1x100352, .f32⟩
  | 51 => ⟨S100352, .f32⟩
  | 52 => ⟨S1x100352, .f32⟩
  | 53 => ⟨S100352, .f32⟩
  | 54 => ⟨S1x100352, .f32⟩
  | 55 => ⟨S100352, .f32⟩
  | 56 => ⟨S1x100352, .f32⟩
  | 57 => ⟨S100352, .f32⟩
  | 58 => ⟨S1x100352, .f32⟩
  | 59 => ⟨S100352, .f32⟩
  | 60 => ⟨S1x100352, .f32⟩
  | 61 => ⟨S100352, .f32⟩
  | 62 => ⟨S256, .i32⟩
  | 63 => ⟨S_, .i32⟩
  | 64 => ⟨S_, .i32⟩
  | 65 => ⟨S256, .i32⟩
  | 66 => ⟨S256, .i32⟩
  | 67 => ⟨S256, .i32⟩
  | 68 => ⟨S_, .i32⟩
  | 69 => ⟨S256, .i32⟩
  | 70 => ⟨S256, .i1⟩
  | 71 => ⟨S256, .i32⟩
  | 72 => ⟨S256, .i32⟩
  | 73 => ⟨S_, .i32⟩
  | 74 => ⟨S256, .i32⟩
  | 75 => ⟨S256, .i1⟩
  | 76 => ⟨S256, .i1⟩
  | 77 => ⟨S_, .i32⟩
  | 78 => ⟨S256, .i32⟩
  | 79 => ⟨S256, .i32⟩
  | 80 => ⟨S256, .i32⟩
  | 81 => ⟨S_, .i32⟩
  | 82 => ⟨S256, .i32⟩
  | 83 => ⟨S256, .i32⟩
  | 84 => ⟨S256, .f32⟩
  | 85 => ⟨S_, .i32⟩
  | 86 => ⟨S_, .i32⟩
  | 87 => ⟨S_, .i32⟩
  | 88 => ⟨S_, .i1⟩
  | 89 => ⟨S_, .i32⟩
  | 90 => ⟨S_, .i32⟩
  | 91 => ⟨S256, .i32⟩
  | 92 => ⟨S256, .i32⟩
  | 93 => ⟨S_, .i32⟩
  | 94 => ⟨S256, .i32⟩
  | 95 => ⟨S256, .i1⟩
  | 96 => ⟨S_, .i32⟩
  | 97 => ⟨S256, .i32⟩
  | 98 => ⟨S256, .i1⟩
  | 99 => ⟨S_, .i32⟩
  | 100 => ⟨S_, .i1⟩
  | 101 => ⟨S256, .i1⟩
  | 102 => ⟨S256, .i1⟩
  | 103 => ⟨S256, .i1⟩
  | 104 => ⟨S256, .i32⟩
  | 105 => ⟨S256, .i32⟩
  | 106 => ⟨S256, .i32⟩
  | 107 => ⟨S_, .i32⟩
  | 108 => ⟨S256, .i32⟩
  | 109 => ⟨S256, .i32⟩
  | 110 => ⟨S256, .f32⟩
  | 111 => ⟨S1x100352, .f32⟩
  | 112 => ⟨S256x1, .f32⟩
  | 113 => ⟨S256x100352, .f32⟩
  | 114 => ⟨S256x100352, .f32⟩
  | 115 => ⟨S256x100352, .i1⟩
  | 116 => ⟨S1x100352, .f32⟩
  | 117 => ⟨S256x1, .f32⟩
  | 118 => ⟨S_, .f32⟩
  | 119 => ⟨S256x1, .f32⟩
  | 120 => ⟨S256x1, .f32⟩
  | 121 => ⟨S256x100352, .f32⟩
  | 122 => ⟨S256x100352, .f32⟩
  | 123 => ⟨S256x100352, .i1⟩
  | 124 => ⟨S256x100352, .i1⟩
  | 125 => ⟨S1x100352, .f32⟩
  | 126 => ⟨S256x1, .f32⟩
  | 127 => ⟨S256x100352, .f32⟩
  | _ => ⟨S100000x3, .f32⟩

abbrev hbmTy0_1 (i : Nat) : BufTy := match i % 128 with
  | 0 => ⟨S256x100352, .f32⟩
  | 1 => ⟨S256x100352, .i1⟩
  | 2 => ⟨S256x100352, .i1⟩
  | 3 => ⟨S1x100352, .f32⟩
  | 4 => ⟨S256x1, .f32⟩
  | 5 => ⟨S_, .f32⟩
  | 6 => ⟨S256x1, .f32⟩
  | 7 => ⟨S256x1, .f32⟩
  | 8 => ⟨S256x100352, .f32⟩
  | 9 => ⟨S256x100352, .f32⟩
  | 10 => ⟨S256x100352, .i1⟩
  | 11 => ⟨S256x100352, .i1⟩
  | 12 => ⟨S1x100352, .f32⟩
  | 13 => ⟨S_, .f32⟩
  | 14 => ⟨S1x100352, .f32⟩
  | 15 => ⟨S1x100352, .i1⟩
  | 16 => ⟨S256x100352, .i1⟩
  | 17 => ⟨S256x100352, .i1⟩
  | 18 => ⟨S1x100352, .f32⟩
  | 19 => ⟨S1x100352, .f32⟩
  | 20 => ⟨S_, .f32⟩
  | 21 => ⟨S_, .f32⟩
  | 22 => ⟨S256x100352, .f32⟩
  | 23 => ⟨S256x100352, .f32⟩
  | 24 => ⟨S256x100352, .f32⟩
  | 25 => ⟨S256x64, .f32⟩
  | 26 => ⟨S256x64, .i32⟩
  | 27 => ⟨S_, .f32⟩
  | 28 => ⟨S256x64, .f32⟩
  | 29 => ⟨S256x64, .i1⟩
  | 30 => ⟨S256x64, .f32⟩
  | 31 => ⟨S16384, .i32⟩
  | 32 => ⟨S_, .i32⟩
  | 33 => ⟨S16384, .i32⟩
  | 34 => ⟨S16384, .i1⟩
  | 35 => ⟨S_, .i32⟩
  | 36 => ⟨S16384, .i32⟩
  | 37 => ⟨S16384, .i32⟩
  | 38 => ⟨S16384, .i32⟩
  | 39 => ⟨S16384x1, .i32⟩
  | 40 => ⟨S16x16384, .f32⟩
  | 41 => ⟨S16x256x64, .f32⟩
  | 42 => ⟨S1x256x64, .f32⟩
  | 43 => ⟨S256x64, .f32⟩
  | 44 => ⟨S1x256x64, .f32⟩
  | 45 => ⟨S256x64, .f32⟩
  | 46 => ⟨S1x256x64, .f32⟩
  | 47 => ⟨S256x64, .f32⟩
  | 48 => ⟨S1x256x64, .f32⟩
  | 49 => ⟨S256x64, .f32⟩
  | 50 => ⟨S1x256x64, .f32⟩
  | 51 => ⟨S256x64, .f32⟩
  | 52 => ⟨S1x256x64, .f32⟩
  | 53 => ⟨S256x64, .f32⟩
  | 54 => ⟨S_, .f32⟩
  | 55 => ⟨S256x64, .f32⟩
  | 56 => ⟨S1x256x64, .f32⟩
  | 57 => ⟨S256x64, .f32⟩
  | 58 => ⟨S1x256x64, .f32⟩
  | 59 => ⟨S256x64, .f32⟩
  | 60 => ⟨S1x256x64, .f32⟩
  | 61 => ⟨S256x64, .f32⟩
  | 62 => ⟨S_, .f32⟩
  | 63 => ⟨S256x64, .f32⟩
  | 64 => ⟨S256x64x1, .f32⟩
  | 65 => ⟨S256x64x1, .f32⟩
  | 66 => ⟨S256x64x1, .f32⟩
  | 67 => ⟨S256x64x1, .f32⟩
  | 68 => ⟨S256x64x1, .f32⟩
  | 69 => ⟨S256x64x1, .f32⟩
  | 70 => ⟨S256x64x1, .f32⟩
  | 71 => ⟨S256x64x1, .f32⟩
  | 72 => ⟨S256x64x1, .f32⟩
  | 73 => ⟨S256x64x1, .f32⟩
  | 74 => ⟨S256x64x1, .f32⟩
  | 75 => ⟨S256x64x1, .f32⟩
  | 76 => ⟨S256x64x12, .f32⟩
  | 77 => ⟨S_, .i32⟩
  | 78 => ⟨S_, .f32⟩
  | 79 => ⟨S256x64x16, .f32⟩
  | 80 => ⟨S256x3x256, .f32⟩
  | 81 => ⟨S16x16x3x16x16, .f32⟩
  | 82 => ⟨S16x16x16x16x3, .f32⟩
  | 83 => ⟨S256x256x3, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | .local _ .vmem, ⟨0, _⟩ => ⟨S64x2048, .f32⟩
  | .local _ .vmem, ⟨1, _⟩ => ⟨S64x2048, .f32⟩
  | .local _ .vmem, ⟨2, _⟩ => ⟨S8x128, .f32⟩
  | .local _ .vmem, ⟨3, _⟩ => ⟨S16x2048, .f32⟩
  | .local _ .vmem, ⟨4, _⟩ => ⟨S16x2048, .f32⟩
  | .local _ .vmem, ⟨5, _⟩ => ⟨S1x64x16, .f32⟩
  | .local _ .vmem, ⟨6, _⟩ => ⟨S1x64x16, .f32⟩
  | .local _ .vmem, ⟨7, _⟩ => ⟨S1x3x256, .f32⟩
  | .local _ .vmem, ⟨8, _⟩ => ⟨S1x3x256, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_c_1 : Ref sig .tc := ⟨.hbm, 16, rfl⟩
abbrev main_call2_v0 : Ref sig .tc := ⟨.hbm, 17, rfl⟩
abbrev main_v5 : Ref sig .tc := ⟨.hbm, 18, rfl⟩
abbrev main_v6 : Ref sig .tc := ⟨.hbm, 19, rfl⟩
abbrev main_c_2 : Ref sig .tc := ⟨.hbm, 20, rfl⟩
abbrev main_call3_v0 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_c_3 : Ref sig .tc := ⟨.hbm, 25, rfl⟩
abbrev main_call4_v0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c_4 : Ref sig .tc := ⟨.hbm, 30, rfl⟩
abbrev main_call5_v0 : Ref sig .tc := ⟨.hbm, 31, rfl⟩
abbrev main_v12 : Ref sig .tc := ⟨.hbm, 32, rfl⟩
abbrev main_cst_5 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_6 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_7 : Ref sig .tc := ⟨.hbm, 43, rfl⟩
abbrev main_v21 : Ref sig .tc := ⟨.hbm, 44, rfl⟩
abbrev main_c_8 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c_9 : Ref sig .tc := ⟨.hbm, 63, rfl⟩
abbrev main_call6_v0 : Ref sig .tc := ⟨.hbm, 64, rfl⟩
abbrev main_call6_v1 : Ref sig .tc := ⟨.hbm, 65, rfl⟩
abbrev main_call6_v2 : Ref sig .tc := ⟨.hbm, 66, rfl⟩
abbrev main_call6_v3 : Ref sig .tc := ⟨.hbm, 67, rfl⟩
abbrev main_call6_v4 : Ref sig .tc := ⟨.hbm, 68, rfl⟩
abbrev main_call6_v5 : Ref sig .tc := ⟨.hbm, 69, rfl⟩
abbrev main_call6_v6 : Ref sig .tc := ⟨.hbm, 70, rfl⟩
abbrev main_call6_v7 : Ref sig .tc := ⟨.hbm, 71, rfl⟩
abbrev main_call6_v8 : Ref sig .tc := ⟨.hbm, 72, rfl⟩
abbrev main_call6_c : Ref sig .tc := ⟨.hbm, 73, rfl⟩
abbrev main_call6_v9 : Ref sig .tc := ⟨.hbm, 74, rfl⟩
abbrev main_call6_v10 : Ref sig .tc := ⟨.hbm, 75, rfl⟩
abbrev main_call6_v11 : Ref sig .tc := ⟨.hbm, 76, rfl⟩
abbrev main_call6_c_0 : Ref sig .tc := ⟨.hbm, 77, rfl⟩
abbrev main_call6_v12 : Ref sig .tc := ⟨.hbm, 78, rfl⟩
abbrev main_call6_v13 : Ref sig .tc := ⟨.hbm, 79, rfl⟩
abbrev main_v39 : Ref sig .tc := ⟨.hbm, 80, rfl⟩
abbrev main_c_10 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_c_11 : Ref sig .tc := ⟨.hbm, 85, rfl⟩
abbrev main_call7_v0 : Ref sig .tc := ⟨.hbm, 86, rfl⟩
abbrev main_call7_c : Ref sig .tc := ⟨.hbm, 87, rfl⟩
abbrev main_call7_v1 : Ref sig .tc := ⟨.hbm, 88, rfl⟩
abbrev main_call7_c_0 : Ref sig .tc := ⟨.hbm, 89, rfl⟩
abbrev main_call7_v2 : Ref sig .tc := ⟨.hbm, 90, rfl⟩
abbrev main_call7_v3 : Ref sig .tc := ⟨.hbm, 91, rfl⟩
abbrev main_call7_v4 : Ref sig .tc := ⟨.hbm, 92, rfl⟩
abbrev main_call7_c_1 : Ref sig .tc := ⟨.hbm, 93, rfl⟩
abbrev main_call7_v5 : Ref sig .tc := ⟨.hbm, 94, rfl⟩
abbrev main_call7_v6 : Ref sig .tc := ⟨.hbm, 95, rfl⟩
abbrev main_call7_c_2 : Ref sig .tc := ⟨.hbm, 96, rfl⟩
abbrev main_call7_v7 : Ref sig .tc := ⟨.hbm, 97, rfl⟩
abbrev main_call7_v8 : Ref sig .tc := ⟨.hbm, 98, rfl⟩
abbrev main_call7_c_3 : Ref sig .tc := ⟨.hbm, 99, rfl⟩
abbrev main_call7_v9 : Ref sig .tc := ⟨.hbm, 100, rfl⟩
abbrev main_call7_v10 : Ref sig .tc := ⟨.hbm, 101, rfl⟩
abbrev main_call7_v11 : Ref sig .tc := ⟨.hbm, 102, rfl⟩
abbrev main_call7_v12 : Ref sig .tc := ⟨.hbm, 103, rfl⟩
abbrev main_call7_v13 : Ref sig .tc := ⟨.hbm, 104, rfl⟩
abbrev main_call7_v14 : Ref sig .tc := ⟨.hbm, 105, rfl⟩
abbrev main_v43 : Ref sig .tc := ⟨.hbm, 106, rfl⟩
abbrev main_c_12 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_cst_13 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_cst_14 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_cst_15 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_cst_16 : Ref sig .tc := ⟨.hbm, 148, rfl⟩
abbrev main_call8_v0 : Ref sig .tc := ⟨.hbm, 149, rfl⟩
abbrev main_call8_v1 : Ref sig .tc := ⟨.hbm, 150, rfl⟩
abbrev main_call8_v2 : Ref sig .tc := ⟨.hbm, 151, rfl⟩
abbrev main_v81 : Ref sig .tc := ⟨.hbm, 152, rfl⟩
abbrev main_values : Ref sig .tc := ⟨.hbm, 153, rfl⟩
abbrev main_indices : Ref sig .tc := ⟨.hbm, 154, rfl⟩
abbrev main_cst_17 : Ref sig .tc := ⟨.hbm, 155, rfl⟩
abbrev main_v82 : Ref sig .tc := ⟨.hbm, 156, rfl⟩
abbrev main_v83 : Ref sig .tc := ⟨.hbm, 157, rfl⟩
abbrev main_v84 : Ref sig .tc := ⟨.hbm, 158, rfl⟩
abbrev main_v85 : Ref sig .tc := ⟨.hbm, 159, rfl⟩
abbrev main_c_18 : Ref sig .tc := ⟨.hbm, 160, rfl⟩
abbrev main_v86 : Ref sig .tc := ⟨.hbm, 161, rfl⟩
abbrev main_v87 : Ref sig .tc := ⟨.hbm, 162, rfl⟩
abbrev main_c_19 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_v99 : Ref sig .tc := ⟨.hbm, 175, rfl⟩
abbrev main_v100 : Ref sig .tc := ⟨.hbm, 176, rfl⟩
abbrev main_v101 : Ref sig .tc := ⟨.hbm, 177, rfl⟩
abbrev main_v102 : Ref sig .tc := ⟨.hbm, 178, rfl⟩
abbrev main_v103 : Ref sig .tc := ⟨.hbm, 179, rfl⟩
abbrev main_v104 : Ref sig .tc := ⟨.hbm, 180, rfl⟩
abbrev main_v105 : Ref sig .tc := ⟨.hbm, 181, rfl⟩
abbrev main_cst_20 : Ref sig .tc := ⟨.hbm, 182, rfl⟩
abbrev main_v106 : Ref sig .tc := ⟨.hbm, 183, rfl⟩
abbrev main_v107 : Ref sig .tc := ⟨.hbm, 184, rfl⟩
abbrev main_v108 : Ref sig .tc := ⟨.hbm, 185, rfl⟩
abbrev main_v109 : Ref sig .tc := ⟨.hbm, 186, rfl⟩
abbrev main_v110 : Ref sig .tc := ⟨.hbm, 187, rfl⟩
abbrev main_v111 : Ref sig .tc := ⟨.hbm, 188, rfl⟩
abbrev main_v112 : Ref sig .tc := ⟨.hbm, 189, rfl⟩
abbrev main_cst_21 : Ref sig .tc := ⟨.hbm, 190, rfl⟩
abbrev main_v113 : Ref sig .tc := ⟨.hbm, 191, rfl⟩
abbrev main_v114 : Ref sig .tc := ⟨.hbm, 192, rfl⟩
abbrev main_v115 : Ref sig .tc := ⟨.hbm, 193, rfl⟩
abbrev main_v116 : Ref sig .tc := ⟨.hbm, 194, rfl⟩
abbrev main_v117 : Ref sig .tc := ⟨.hbm, 195, rfl⟩
abbrev main_v118 : Ref sig .tc := ⟨.hbm, 196, rfl⟩
abbrev main_v119 : Ref sig .tc := ⟨.hbm, 197, rfl⟩
abbrev main_v120 : Ref sig .tc := ⟨.hbm, 198, rfl⟩
abbrev main_v121 : Ref sig .tc := ⟨.hbm, 199, rfl⟩
abbrev main_v122 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_c_22 : Ref sig .tc := ⟨.hbm, 205, rfl⟩
abbrev main_call9_v0 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_v131 : Ref sig .tc := ⟨.hbm, 211, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![256], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x64x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x3x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== ReferenceIdeal.lean ====
abbrev S100000x3 : Shape := ⟨2, ![100000, 3]⟩
abbrev S100000x4 : Shape := ⟨2, ![100000, 4]⟩
abbrev S100000 : Shape := ⟨1, ![100000]⟩
abbrev S100000x16x3 : Shape := ⟨3, ![100000, 16, 3]⟩
abbrev S4x4 : Shape := ⟨2, ![4, 4]⟩
abbrev S3 : Shape := ⟨1, ![3]⟩
abbrev S_ : Shape := ⟨0, ![]⟩
abbrev S100000x1 : Shape := ⟨2, ![100000, 1]⟩
abbrev S100000x9 : Shape := ⟨2, ![100000, 9]⟩
abbrev S100000x3x3 : Shape := ⟨3, ![100000, 3, 3]⟩
abbrev S100000x1x3 : Shape := ⟨3, ![100000, 1, 3]⟩
abbrev S3x3 : Shape := ⟨2, ![3, 3]⟩
abbrev S3x1 : Shape := ⟨2, ![3, 1]⟩
abbrev S1x3 : Shape := ⟨2, ![1, 3]⟩
abbrev S100000x2x3 : Shape := ⟨3, ![100000, 2, 3]⟩
abbrev S100000x3x2 : Shape := ⟨3, ![100000, 3, 2]⟩
abbrev S100000x2x2 : Shape := ⟨3, ![100000, 2, 2]⟩
abbrev S2x2 : Shape := ⟨2, ![2, 2]⟩
abbrev S1x2x2 : Shape := ⟨3, ![1, 2, 2]⟩
abbrev S100000x3x16 : Shape := ⟨3, ![100000, 3, 16]⟩
abbrev S100000x3x1 : Shape := ⟨3, ![100000, 3, 1]⟩
abbrev S100000x1x1 : Shape := ⟨3, ![100000, 1, 1]⟩
abbrev S256 : Shape := ⟨1, ![256]⟩
abbrev S1x100000 : Shape := ⟨2, ![1, 100000]⟩
abbrev S256x1 : Shape := ⟨2, ![256, 1]⟩
abbrev S256x100000 : Shape := ⟨2, ![256, 100000]⟩
abbrev S256x64 : Shape := ⟨2, ![256, 64]⟩
abbrev S256x64x1 : Shape := ⟨3, ![256, 64, 1]⟩
abbrev S256x64x2x2 : Shape := ⟨4, ![256, 64, 2, 2]⟩
abbrev S256x64x3 : Shape := ⟨3, ![256, 64, 3]⟩
abbrev S256x64x1x1 : Shape := ⟨4, ![256, 64, 1, 1]⟩
abbrev S16 : Shape := ⟨1, ![16]⟩
abbrev S1x16 : Shape := ⟨2, ![1, 16]⟩
abbrev S256x16 : Shape := ⟨2, ![256, 16]⟩
abbrev S256x1x16x1 : Shape := ⟨4, ![256, 1, 16, 1]⟩
abbrev S256x64x16x1 : Shape := ⟨4, ![256, 64, 16, 1]⟩
abbrev S256x1x1x16 : Shape := ⟨4, ![256, 1, 1, 16]⟩
abbrev S256x64x1x16 : Shape := ⟨4, ![256, 64, 1, 16]⟩
abbrev S256x64x16x16 : Shape := ⟨4, ![256, 64, 16, 16]⟩
abbrev S256x16x16x64 : Shape := ⟨4, ![256, 16, 16, 64]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S256x16x16x1x64 : Shape := ⟨5, ![256, 16, 16, 1, 64]⟩
abbrev S256x16x16x64x64 : Shape := ⟨5, ![256, 16, 16, 64, 64]⟩
abbrev S256x16x16x64x32 : Shape := ⟨5, ![256, 16, 16, 64, 32]⟩
abbrev S256x16x16x64x16 : Shape := ⟨5, ![256, 16, 16, 64, 16]⟩
abbrev S256x16x16x64x8 : Shape := ⟨5, ![256, 16, 16, 64, 8]⟩
abbrev S256x16x16x64x4 : Shape := ⟨5, ![256, 16, 16, 64, 4]⟩
abbrev S256x16x16x64x2 : Shape := ⟨5, ![256, 16, 16, 64, 2]⟩
abbrev S256x16x16x64x1 : Shape := ⟨5, ![256, 16, 16, 64, 1]⟩
abbrev S256x16x16x3 : Shape := ⟨4, ![256, 16, 16, 3]⟩
abbrev S16x16x16x16x3 : Shape := ⟨5, ![16, 16, 16, 16, 3]⟩
abbrev S256x256x3 : Shape := ⟨3, ![256, 256, 3]⟩

abbrev nBuf : Space → Nat
  | .hbm => 696
  | .vmem => 0
  | .smem => 0
  | _ => 0

abbrev hbmTy0_0 (i : Nat) : BufTy := match i % 128 with
  | 0 => ⟨S100000x3, .f32⟩
  | 1 => ⟨S100000x3, .f32⟩
  | 2 => ⟨S100000x4, .f32⟩
  | 3 => ⟨S100000, .f32⟩
  | 4 => ⟨S100000x16x3, .f32⟩
  | 5 => ⟨S4x4, .f32⟩
  | 6 => ⟨S3, .f32⟩
  | 7 => ⟨S100000x4, .f32⟩
  | 8 => ⟨S_, .f32⟩
  | 9 => ⟨S100000, .f32⟩
  | 10 => ⟨S100000x1, .f32⟩
  | 11 => ⟨S100000x1, .f32⟩
  | 12 => ⟨S_, .f32⟩
  | 13 => ⟨S100000x1, .f32⟩
  | 14 => ⟨S100000x1, .f32⟩
  | 15 => ⟨S100000x4, .f32⟩
  | 16 => ⟨S100000x4, .f32⟩
  | 17 => ⟨S100000x1, .f32⟩
  | 18 => ⟨S100000, .f32⟩
  | 19 => ⟨S100000x1, .f32⟩
  | 20 => ⟨S100000, .f32⟩
  | 21 => ⟨S100000x1, .f32⟩
  | 22 => ⟨S100000, .f32⟩
  | 23 => ⟨S100000x1, .f32⟩
  | 24 => ⟨S100000, .f32⟩
  | 25 => ⟨S100000, .f32⟩
  | 26 => ⟨S100000, .f32⟩
  | 27 => ⟨S100000, .f32⟩
  | 28 => ⟨S_, .f32⟩
  | 29 => ⟨S100000, .f32⟩
  | 30 => ⟨S100000, .f32⟩
  | 31 => ⟨S_, .f32⟩
  | 32 => ⟨S100000, .f32⟩
  | 33 => ⟨S100000, .f32⟩
  | 34 => ⟨S100000, .f32⟩
  | 35 => ⟨S100000, .f32⟩
  | 36 => ⟨S100000, .f32⟩
  | 37 => ⟨S_, .f32⟩
  | 38 => ⟨S100000, .f32⟩
  | 39 => ⟨S100000, .f32⟩
  | 40 => ⟨S100000, .f32⟩
  | 41 => ⟨S100000, .f32⟩
  | 42 => ⟨S100000, .f32⟩
  | 43 => ⟨S_, .f32⟩
  | 44 => ⟨S100000, .f32⟩
  | 45 => ⟨S100000, .f32⟩
  | 46 => ⟨S100000, .f32⟩
  | 47 => ⟨S100000, .f32⟩
  | 48 => ⟨S100000, .f32⟩
  | 49 => ⟨S_, .f32⟩
  | 50 => ⟨S100000, .f32⟩
  | 51 => ⟨S100000, .f32⟩
  | 52 => ⟨S100000, .f32⟩
  | 53 => ⟨S100000, .f32⟩
  | 54 => ⟨S100000, .f32⟩
  | 55 => ⟨S_, .f32⟩
  | 56 => ⟨S100000, .f32⟩
  | 57 => ⟨S100000, .f32⟩
  | 58 => ⟨S_, .f32⟩
  | 59 => ⟨S100000, .f32⟩
  | 60 => ⟨S100000, .f32⟩
  | 61 => ⟨S100000, .f32⟩
  | 62 => ⟨S100000, .f32⟩
  | 63 => ⟨S100000, .f32⟩
  | 64 => ⟨S_, .f32⟩
  | 65 => ⟨S100000, .f32⟩
  | 66 => ⟨S100000, .f32⟩
  | 67 => ⟨S100000, .f32⟩
  | 68 => ⟨S100000, .f32⟩
  | 69 => ⟨S100000, .f32⟩
  | 70 => ⟨S_, .f32⟩
  | 71 => ⟨S100000, .f32⟩
  | 72 => ⟨S100000, .f32⟩
  | 73 => ⟨S100000, .f32⟩
  | 74 => ⟨S100000, .f32⟩
  | 75 => ⟨S100000, .f32⟩
  | 76 => ⟨S_, .f32⟩
  | 77 => ⟨S100000, .f32⟩
  | 78 => ⟨S100000, .f32⟩
  | 79 => ⟨S100000, .f32⟩
  | 80 => ⟨S100000, .f32⟩
  | 81 => ⟨S100000, .f32⟩
  | 82 => ⟨S_, .f32⟩
  | 83 => ⟨S100000, .f32⟩
  | 84 => ⟨S100000, .f32⟩
  | 85 => ⟨S_, .f32⟩
  | 86 => ⟨S100000, .f32⟩
  | 87 => ⟨S100000, .f32⟩
  | 88 => ⟨S100000x1, .f32⟩
  | 89 => ⟨S100000x1, .f32⟩
  | 90 => ⟨S100000x1, .f32⟩
  | 91 => ⟨S100000x1, .f32⟩
  | 92 => ⟨S100000x1, .f32⟩
  | 93 => ⟨S100000x1, .f32⟩
  | 94 => ⟨S100000x1, .f32⟩
  | 95 => ⟨S100000x1, .f32⟩
  | 96 => ⟨S100000x1, .f32⟩
  | 97 => ⟨S100000x9, .f32⟩
  | 98 => ⟨S100000x3x3, .f32⟩
  | 99 => ⟨S100000x1x3, .f32⟩
  | 100 => ⟨S100000x3x3, .f32⟩
  | 101 => ⟨S100000x3x3, .f32⟩
  | 102 => ⟨S100000x3x3, .f32⟩
  | 103 => ⟨S100000x3x3, .f32⟩
  | 104 => ⟨S3x3, .f32⟩
  | 105 => ⟨S3x3, .f32⟩
  | 106 => ⟨S100000x3, .f32⟩
  | 107 => ⟨S3x1, .f32⟩
  | 108 => ⟨S3, .f32⟩
  | 109 => ⟨S1x3, .f32⟩
  | 110 => ⟨S100000x3, .f32⟩
  | 111 => ⟨S100000x3, .f32⟩
  | 112 => ⟨S100000x1, .f32⟩
  | 113 => ⟨S100000, .f32⟩
  | 114 => ⟨S100000x1, .f32⟩
  | 115 => ⟨S100000, .f32⟩
  | 116 => ⟨S100000x1, .f32⟩
  | 117 => ⟨S100000, .f32⟩
  | 118 => ⟨S_, .f32⟩
  | 119 => ⟨S100000, .f32⟩
  | 120 => ⟨S100000, .i1⟩
  | 121 => ⟨S_, .f32⟩
  | 122 => ⟨S100000, .f32⟩
  | 123 => ⟨S100000, .f32⟩
  | 124 => ⟨S_, .f32⟩
  | 125 => ⟨S100000, .f32⟩
  | 126 => ⟨S100000, .f32⟩
  | 127 => ⟨S100000, .f32⟩
  | _ => ⟨S100000x3, .f32⟩

abbrev hbmTy0_1 (i : Nat) : BufTy := match i % 128 with
  | 0 => ⟨S_, .f32⟩
  | 1 => ⟨S100000, .f32⟩
  | 2 => ⟨S100000, .f32⟩
  | 3 => ⟨S_, .f32⟩
  | 4 => ⟨S100000, .f32⟩
  | 5 => ⟨S100000, .f32⟩
  | 6 => ⟨S100000, .f32⟩
  | 7 => ⟨S_, .f32⟩
  | 8 => ⟨S100000, .f32⟩
  | 9 => ⟨S100000, .f32⟩
  | 10 => ⟨S_, .f32⟩
  | 11 => ⟨S100000, .f32⟩
  | 12 => ⟨S100000, .f32⟩
  | 13 => ⟨S_, .f32⟩
  | 14 => ⟨S100000, .f32⟩
  | 15 => ⟨S_, .f32⟩
  | 16 => ⟨S100000, .f32⟩
  | 17 => ⟨S100000, .f32⟩
  | 18 => ⟨S100000, .f32⟩
  | 19 => ⟨S100000, .f32⟩
  | 20 => ⟨S100000x1, .f32⟩
  | 21 => ⟨S100000x1, .f32⟩
  | 22 => ⟨S100000x1, .f32⟩
  | 23 => ⟨S100000x3, .f32⟩
  | 24 => ⟨S_, .f32⟩
  | 25 => ⟨S100000, .f32⟩
  | 26 => ⟨S_, .f32⟩
  | 27 => ⟨S100000, .f32⟩
  | 28 => ⟨S100000, .f32⟩
  | 29 => ⟨S_, .f32⟩
  | 30 => ⟨S100000, .f32⟩
  | 31 => ⟨S100000, .f32⟩
  | 32 => ⟨S100000, .f32⟩
  | 33 => ⟨S100000, .f32⟩
  | 34 => ⟨S100000x1, .f32⟩
  | 35 => ⟨S100000x1, .f32⟩
  | 36 => ⟨S100000x1, .f32⟩
  | 37 => ⟨S100000x3, .f32⟩
  | 38 => ⟨S100000x1x3, .f32⟩
  | 39 => ⟨S100000x1x3, .f32⟩
  | 40 => ⟨S100000x2x3, .f32⟩
  | 41 => ⟨S100000x2x3, .f32⟩
  | 42 => ⟨S100000x2x3, .f32⟩
  | 43 => ⟨S100000x3x2, .f32⟩
  | 44 => ⟨S100000x2x2, .f32⟩
  | 45 => ⟨S2x2, .i32⟩
  | 46 => ⟨S2x2, .i32⟩
  | 47 => ⟨S_, .i32⟩
  | 48 => ⟨S2x2, .i32⟩
  | 49 => ⟨S2x2, .i32⟩
  | 50 => ⟨S2x2, .i1⟩
  | 51 => ⟨S2x2, .f32⟩
  | 52 => ⟨S_, .f32⟩
  | 53 => ⟨S2x2, .f32⟩
  | 54 => ⟨S2x2, .f32⟩
  | 55 => ⟨S1x2x2, .f32⟩
  | 56 => ⟨S100000x2x2, .f32⟩
  | 57 => ⟨S100000x2x2, .f32⟩
  | 58 => ⟨S1x3, .f32⟩
  | 59 => ⟨S100000x3, .f32⟩
  | 60 => ⟨S100000x3, .f32⟩
  | 61 => ⟨S100000x3, .f32⟩
  | 62 => ⟨S_, .f32⟩
  | 63 => ⟨S100000, .f32⟩
  | 64 => ⟨S100000x1, .f32⟩
  | 65 => ⟨S100000x1, .f32⟩
  | 66 => ⟨S_, .f32⟩
  | 67 => ⟨S100000x1, .f32⟩
  | 68 => ⟨S100000x1, .f32⟩
  | 69 => ⟨S100000x3, .f32⟩
  | 70 => ⟨S100000x3, .f32⟩
  | 71 => ⟨S100000x3x16, .f32⟩
  | 72 => ⟨S100000x1, .f32⟩
  | 73 => ⟨S100000x1, .f32⟩
  | 74 => ⟨S100000x1, .f32⟩
  | 75 => ⟨S100000x3x1, .f32⟩
  | 76 => ⟨S100000x3, .f32⟩
  | 77 => ⟨S_, .f32⟩
  | 78 => ⟨S100000x3, .f32⟩
  | 79 => ⟨S100000x3, .f32⟩
  | 80 => ⟨S_, .f32⟩
  | 81 => ⟨S100000x1, .f32⟩
  | 82 => ⟨S100000x1, .f32⟩
  | 83 => ⟨S100000x3x1, .f32⟩
  | 84 => ⟨S100000x3, .f32⟩
  | 85 => ⟨S100000x3, .f32⟩
  | 86 => ⟨S100000x3, .f32⟩
  | 87 => ⟨S100000x3, .f32⟩
  | 88 => ⟨S_, .f32⟩
  | 89 => ⟨S100000x1, .f32⟩
  | 90 => ⟨S100000x1, .f32⟩
  | 91 => ⟨S100000x3x1, .f32⟩
  | 92 => ⟨S100000x3, .f32⟩
  | 93 => ⟨S100000x3, .f32⟩
  | 94 => ⟨S100000x3, .f32⟩
  | 95 => ⟨S100000x3, .f32⟩
  | 96 => ⟨S_, .f32⟩
  | 97 => ⟨S100000x1, .f32⟩
  | 98 => ⟨S100000x1, .f32⟩
  | 99 => ⟨S100000x3x1, .f32⟩
  | 100 => ⟨S100000x3, .f32⟩
  | 101 => ⟨S100000x3, .f32⟩
  | 102 => ⟨S100000x3, .f32⟩
  | 103 => ⟨S100000x3, .f32⟩
  | 104 => ⟨S100000x1, .f32⟩
  | 105 => ⟨S100000x1, .f32⟩
  | 106 => ⟨S100000x1, .f32⟩
  | 107 => ⟨S100000x1, .f32⟩
  | 108 => ⟨S100000x1, .f32⟩
  | 109 => ⟨S100000x1, .f32⟩
  | 110 => ⟨S_, .f32⟩
  | 111 => ⟨S100000x1, .f32⟩
  | 112 => ⟨S100000x1, .f32⟩
  | 113 => ⟨S100000x3x1, .f32⟩
  | 114 => ⟨S100000x3, .f32⟩
  | 115 => ⟨S100000x3, .f32⟩
  | 116 => ⟨S100000x3, .f32⟩
  | 117 => ⟨S100000x3, .f32⟩
  | 118 => ⟨S_, .f32⟩
  | 119 => ⟨S100000x1, .f32⟩
  | 120 => ⟨S100000x1, .f32⟩
  | 121 => ⟨S100000x3x1, .f32⟩
  | 122 => ⟨S100000x3, .f32⟩
  | 123 => ⟨S100000x3, .f32⟩
  | 124 => ⟨S100000x3, .f32⟩
  | 125 => ⟨S100000x3, .f32⟩
  | 126 => ⟨S_, .f32⟩
  | 127 => ⟨S100000x1, .f32⟩
  | _ => ⟨S100000x3, .f32⟩

abbrev hbmTy0_2 (i : Nat) : BufTy := match i % 128 with
  | 0 => ⟨S100000x1, .f32⟩
  | 1 => ⟨S100000x1, .f32⟩
  | 2 => ⟨S100000x1, .f32⟩
  | 3 => ⟨S_, .f32⟩
  | 4 => ⟨S100000x1, .f32⟩
  | 5 => ⟨S100000x1, .f32⟩
  | 6 => ⟨S100000x3x1, .f32⟩
  | 7 => ⟨S100000x3, .f32⟩
  | 8 => ⟨S100000x3, .f32⟩
  | 9 => ⟨S100000x3, .f32⟩
  | 10 => ⟨S100000x3, .f32⟩
  | 11 => ⟨S_, .f32⟩
  | 12 => ⟨S100000x1, .f32⟩
  | 13 => ⟨S100000x1, .f32⟩
  | 14 => ⟨S100000x3x1, .f32⟩
  | 15 => ⟨S100000x3, .f32⟩
  | 16 => ⟨S100000x3, .f32⟩
  | 17 => ⟨S100000x3, .f32⟩
  | 18 => ⟨S100000x3, .f32⟩
  | 19 => ⟨S100000x1, .f32⟩
  | 20 => ⟨S_, .f32⟩
  | 21 => ⟨S100000x1, .f32⟩
  | 22 => ⟨S100000x1, .f32⟩
  | 23 => ⟨S100000x3x1, .f32⟩
  | 24 => ⟨S100000x3, .f32⟩
  | 25 => ⟨S100000x3, .f32⟩
  | 26 => ⟨S100000x3, .f32⟩
  | 27 => ⟨S100000x3, .f32⟩
  | 28 => ⟨S_, .f32⟩
  | 29 => ⟨S100000x1, .f32⟩
  | 30 => ⟨S100000x1, .f32⟩
  | 31 => ⟨S_, .f32⟩
  | 32 => ⟨S100000x1, .f32⟩
  | 33 => ⟨S100000x1, .f32⟩
  | 34 => ⟨S100000x1, .f32⟩
  | 35 => ⟨S100000x1, .f32⟩
  | 36 => ⟨S100000x3x1, .f32⟩
  | 37 => ⟨S100000x3, .f32⟩
  | 38 => ⟨S100000x3, .f32⟩
  | 39 => ⟨S100000x3, .f32⟩
  | 40 => ⟨S100000x3, .f32⟩
  | 41 => ⟨S_, .f32⟩
  | 42 => ⟨S100000x1, .f32⟩
  | 43 => ⟨S100000x1, .f32⟩
  | 44 => ⟨S100000x1, .f32⟩
  | 45 => ⟨S100000x3x1, .f32⟩
  | 46 => ⟨S100000x3, .f32⟩
  | 47 => ⟨S100000x3, .f32⟩
  | 48 => ⟨S100000x3, .f32⟩
  | 49 => ⟨S100000x3, .f32⟩
  | 50 => ⟨S_, .f32⟩
  | 51 => ⟨S100000x1, .f32⟩
  | 52 => ⟨S100000x1, .f32⟩
  | 53 => ⟨S_, .f32⟩
  | 54 => ⟨S100000x1, .f32⟩
  | 55 => ⟨S100000x1, .f32⟩
  | 56 => ⟨S100000x1, .f32⟩
  | 57 => ⟨S100000x1, .f32⟩
  | 58 => ⟨S100000x1, .f32⟩
  | 59 => ⟨S100000x3x1, .f32⟩
  | 60 => ⟨S100000x3, .f32⟩
  | 61 => ⟨S100000x3, .f32⟩
  | 62 => ⟨S100000x3, .f32⟩
  | 63 => ⟨S100000x3, .f32⟩
  | 64 => ⟨S_, .f32⟩
  | 65 => ⟨S100000x1, .f32⟩
  | 66 => ⟨S100000x1, .f32⟩
  | 67 => ⟨S_, .f32⟩
  | 68 => ⟨S100000x1, .f32⟩
  | 69 => ⟨S100000x1, .f32⟩
  | 70 => ⟨S_, .f32⟩
  | 71 => ⟨S100000x1, .f32⟩
  | 72 => ⟨S100000x1, .f32⟩
  | 73 => ⟨S100000x1, .f32⟩
  | 74 => ⟨S_, .f32⟩
  | 75 => ⟨S100000x1, .f32⟩
  | 76 => ⟨S100000x1, .f32⟩
  | 77 => ⟨S100000x1, .f32⟩
  | 78 => ⟨S100000x1, .f32⟩
  | 79 => ⟨S100000x3x1, .f32⟩
  | 80 => ⟨S100000x3, .f32⟩
  | 81 => ⟨S100000x3, .f32⟩
  | 82 => ⟨S100000x3, .f32⟩
  | 83 => ⟨S100000x3, .f32⟩
  | 84 => ⟨S_, .f32⟩
  | 85 => ⟨S100000x1, .f32⟩
  | 86 => ⟨S100000x1, .f32⟩
  | 87 => ⟨S_, .f32⟩
  | 88 => ⟨S100000x1, .f32⟩
  | 89 => ⟨S100000x1, .f32⟩
  | 90 => ⟨S100000x1, .f32⟩
  | 91 => ⟨S100000x1, .f32⟩
  | 92 => ⟨S100000x1, .f32⟩
  | 93 => ⟨S100000x3x1, .f32⟩
  | 94 => ⟨S100000x3, .f32⟩
  | 95 => ⟨S100000x3, .f32⟩
  | 96 => ⟨S100000x3, .f32⟩
  | 97 => ⟨S100000x3, .f32⟩
  | 98 => ⟨S_, .f32⟩
  | 99 => ⟨S100000x1, .f32⟩
  | 100 => ⟨S100000x1, .f32⟩
  | 101 => ⟨S100000x1, .f32⟩
  | 102 => ⟨S100000x1, .f32⟩
  | 103 => ⟨S100000x3x1, .f32⟩
  | 104 => ⟨S100000x3, .f32⟩
  | 105 => ⟨S100000x3, .f32⟩
  | 106 => ⟨S100000x3, .f32⟩
  | 107 => ⟨S100000x3, .f32⟩
  | 108 => ⟨S_, .f32⟩
  | 109 => ⟨S100000x1, .f32⟩
  | 110 => ⟨S100000x1, .f32⟩
  | 111 => ⟨S_, .f32⟩
  | 112 => ⟨S100000x1, .f32⟩
  | 113 => ⟨S100000x1, .f32⟩
  | 114 => ⟨S100000x1, .f32⟩
  | 115 => ⟨S100000x1, .f32⟩
  | 116 => ⟨S100000x3x1, .f32⟩
  | 117 => ⟨S100000x3, .f32⟩
  | 118 => ⟨S100000x3, .f32⟩
  | 119 => ⟨S100000x3, .f32⟩
  | 120 => ⟨S100000x3, .f32⟩
  | 121 => ⟨S_, .f32⟩
  | 122 => ⟨S100000x3, .f32⟩
  | 123 => ⟨S100000x3, .f32⟩
  | 124 => ⟨S_, .f32⟩
  | 125 => ⟨S_, .f32⟩
  | 126 => ⟨S100000x3, .f32⟩
  | 127 => ⟨S100000x3, .f32⟩
  | _ => ⟨S100000x3, .f32⟩

abbrev hbmTy0_3 (i : Nat) : BufTy := match i % 128 with
  | 0 => ⟨S100000x1x1, .f32⟩
  | 1 => ⟨S100000, .f32⟩
  | 2 => ⟨S100000x1x1, .f32⟩
  | 3 => ⟨S100000, .f32⟩
  | 4 => ⟨S100000, .f32⟩
  | 5 => ⟨S100000x1x1, .f32⟩
  | 6 => ⟨S100000, .f32⟩
  | 7 => ⟨S100000x1x1, .f32⟩
  | 8 => ⟨S100000, .f32⟩
  | 9 => ⟨S100000, .f32⟩
  | 10 => ⟨S100000x1x1, .f32⟩
  | 11 => ⟨S100000, .f32⟩
  | 12 => ⟨S100000x1x1, .f32⟩
  | 13 => ⟨S100000, .f32⟩
  | 14 => ⟨S100000, .f32⟩
  | 15 => ⟨S100000, .f32⟩
  | 16 => ⟨S_, .f32⟩
  | 17 => ⟨S100000, .f32⟩
  | 18 => ⟨S100000, .f32⟩
  | 19 => ⟨S100000, .f32⟩
  | 20 => ⟨S_, .f32⟩
  | 21 => ⟨S100000, .f32⟩
  | 22 => ⟨S100000, .f32⟩
  | 23 => ⟨S100000, .f32⟩
  | 24 => ⟨S_, .f32⟩
  | 25 => ⟨S_, .f32⟩
  | 26 => ⟨S100000, .f32⟩
  | 27 => ⟨S100000, .f32⟩
  | 28 => ⟨S100000, .f32⟩
  | 29 => ⟨S_, .f32⟩
  | 30 => ⟨S100000, .f32⟩
  | 31 => ⟨S100000, .f32⟩
  | 32 => ⟨S100000, .f32⟩
  | 33 => ⟨S100000, .f32⟩
  | 34 => ⟨S100000, .f32⟩
  | 35 => ⟨S100000, .f32⟩
  | 36 => ⟨S_, .f32⟩
  | 37 => ⟨S100000, .f32⟩
  | 38 => ⟨S100000, .f32⟩
  | 39 => ⟨S256, .i32⟩
  | 40 => ⟨S_, .i32⟩
  | 41 => ⟨S_, .i32⟩
  | 42 => ⟨S256, .i32⟩
  | 43 => ⟨S256, .i32⟩
  | 44 => ⟨S256, .i32⟩
  | 45 => ⟨S_, .i32⟩
  | 46 => ⟨S256, .i32⟩
  | 47 => ⟨S256, .i1⟩
  | 48 => ⟨S256, .i32⟩
  | 49 => ⟨S256, .i32⟩
  | 50 => ⟨S_, .i32⟩
  | 51 => ⟨S256, .i32⟩
  | 52 => ⟨S256, .i1⟩
  | 53 => ⟨S256, .i1⟩
  | 54 => ⟨S_, .i32⟩
  | 55 => ⟨S256, .i32⟩
  | 56 => ⟨S256, .i32⟩
  | 57 => ⟨S256, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S256, .i32⟩
  | 65 => ⟨S256, .i32⟩
  | 66 => ⟨S_, .i32⟩
  | 67 => ⟨S256, .i32⟩
  | 68 => ⟨S256, .i1⟩
  | 69 => ⟨S_, .i32⟩
  | 70 => ⟨S256, .i32⟩
  | 71 => ⟨S256, .i1⟩
  | 72 => ⟨S_, .i32⟩
  | 73 => ⟨S_, .i1⟩
  | 74 => ⟨S256, .i1⟩
  | 75 => ⟨S256, .i1⟩
  | 76 => ⟨S256, .i1⟩
  | 77 => ⟨S256, .i32⟩
  | 78 => ⟨S256, .i32⟩
  | 79 => ⟨S256, .i32⟩
  | 80 => ⟨S_, .i32⟩
  | 81 => ⟨S256, .i32⟩
  | 82 => ⟨S256, .i32⟩
  | 83 => ⟨S256, .f32⟩
  | 84 => ⟨S_, .i32⟩
  | 85 => ⟨S256, .i32⟩
  | 86 => ⟨S256, .i32⟩
  | 87 => ⟨S256, .f32⟩
  | 88 => ⟨S1x100000, .f32⟩
  | 89 => ⟨S1x100000, .f32⟩
  | 90 => ⟨S1x100000, .f32⟩
  | 91 => ⟨S256x1, .f32⟩
  | 92 => ⟨S256x100000, .f32⟩
  | 93 => ⟨S256x100000, .f32⟩
  | 94 => ⟨S256x100000, .i1⟩
  | 95 => ⟨S1x100000, .f32⟩
  | 96 => ⟨S1x100000, .f32⟩
  | 97 => ⟨S1x100000, .f32⟩
  | 98 => ⟨S256x1, .f32⟩
  | 99 => ⟨S_, .f32⟩
  | 100 => ⟨S256x1, .f32⟩
  | 101 => ⟨S256x1, .f32⟩
  | 102 => ⟨S256x100000, .f32⟩
  | 103 => ⟨S256x100000, .f32⟩
  | 104 => ⟨S256x100000, .i1⟩
  | 105 => ⟨S256x100000, .i1⟩
  | 106 => ⟨S1x100000, .f32⟩
  | 107 => ⟨S1x100000, .f32⟩
  | 108 => ⟨S1x100000, .f32⟩
  | 109 => ⟨S256x1, .f32⟩
  | 110 => ⟨S256x100000, .f32⟩
  | 111 => ⟨S256x100000, .f32⟩
  | 112 => ⟨S256x100000, .i1⟩
  | 113 => ⟨S1x100000, .f32⟩
  | 114 => ⟨S1x100000, .f32⟩
  | 115 => ⟨S1x100000, .f32⟩
  | 116 => ⟨S256x1, .f32⟩
  | 117 => ⟨S_, .f32⟩
  | 118 => ⟨S256x1, .f32⟩
  | 119 => ⟨S256x1, .f32⟩
  | 120 => ⟨S256x100000, .f32⟩
  | 121 => ⟨S256x100000, .f32⟩
  | 122 => ⟨S256x100000, .i1⟩
  | 123 => ⟨S256x100000, .i1⟩
  | 124 => ⟨S256x100000, .i1⟩
  | 125 => ⟨S1x100000, .i1⟩
  | 126 => ⟨S256x100000, .i1⟩
  | 127 => ⟨S256x100000, .i1⟩
  | _ => ⟨S100000x3, .f32⟩

abbrev hbmTy0_4 (i : Nat) : BufTy := match i % 128 with
  | 0 => ⟨S1x100000, .f32⟩
  | 1 => ⟨S1x100000, .f32⟩
  | 2 => ⟨S_, .f32⟩
  | 3 => ⟨S_, .f32⟩
  | 4 => ⟨S256x100000, .f32⟩
  | 5 => ⟨S256x100000, .f32⟩
  | 6 => ⟨S256x100000, .f32⟩
  | 7 => ⟨S256x64, .f32⟩
  | 8 => ⟨S256x64, .i32⟩
  | 9 => ⟨S_, .f32⟩
  | 10 => ⟨S256x64, .f32⟩
  | 11 => ⟨S256x64, .i1⟩
  | 12 => ⟨S256x64, .f32⟩
  | 13 => ⟨S_, .i32⟩
  | 14 => ⟨S256x64, .i32⟩
  | 15 => ⟨S256x64, .i1⟩
  | 16 => ⟨S_, .i32⟩
  | 17 => ⟨S256x64, .i32⟩
  | 18 => ⟨S256x64, .i32⟩
  | 19 => ⟨S256x64, .i32⟩
  | 20 => ⟨S256x64x1, .i32⟩
  | 21 => ⟨S256x64, .f32⟩
  | 22 => ⟨S_, .i32⟩
  | 23 => ⟨S256x64, .i32⟩
  | 24 => ⟨S256x64, .i1⟩
  | 25 => ⟨S_, .i32⟩
  | 26 => ⟨S256x64, .i32⟩
  | 27 => ⟨S256x64, .i32⟩
  | 28 => ⟨S256x64, .i32⟩
  | 29 => ⟨S256x64x1, .i32⟩
  | 30 => ⟨S256x64, .f32⟩
  | 31 => ⟨S_, .i32⟩
  | 32 => ⟨S256x64, .i32⟩
  | 33 => ⟨S256x64, .i1⟩
  | 34 => ⟨S_, .i32⟩
  | 35 => ⟨S256x64, .i32⟩
  | 36 => ⟨S256x64, .i32⟩
  | 37 => ⟨S256x64, .i32⟩
  | 38 => ⟨S256x64x1, .i32⟩
  | 39 => ⟨S256x64x2x2, .f32⟩
  | 40 => ⟨S_, .i32⟩
  | 41 => ⟨S256x64, .i32⟩
  | 42 => ⟨S256x64, .i1⟩
  | 43 => ⟨S_, .i32⟩
  | 44 => ⟨S256x64, .i32⟩
  | 45 => ⟨S256x64, .i32⟩
  | 46 => ⟨S256x64, .i32⟩
  | 47 => ⟨S256x64x1, .i32⟩
  | 48 => ⟨S256x64, .f32⟩
  | 49 => ⟨S_, .i32⟩
  | 50 => ⟨S256x64, .i32⟩
  | 51 => ⟨S256x64, .i1⟩
  | 52 => ⟨S_, .i32⟩
  | 53 => ⟨S256x64, .i32⟩
  | 54 => ⟨S256x64, .i32⟩
  | 55 => ⟨S256x64, .i32⟩
  | 56 => ⟨S256x64x1, .i32⟩
  | 57 => ⟨S256x64x3, .f32⟩
  | 58 => ⟨S256x64x1x1, .f32⟩
  | 59 => ⟨S256x64, .f32⟩
  | 60 => ⟨S256x64x1x1, .f32⟩
  | 61 => ⟨S256x64, .f32⟩
  | 62 => ⟨S256x64x1x1, .f32⟩
  | 63 => ⟨S256x64, .f32⟩
  | 64 => ⟨S256x64x1x1, .f32⟩
  | 65 => ⟨S256x64, .f32⟩
  | 66 => ⟨S256x64, .f32⟩
  | 67 => ⟨S256x64, .f32⟩
  | 68 => ⟨S256x64, .f32⟩
  | 69 => ⟨S256x64, .f32⟩
  | 70 => ⟨S256x64, .f32⟩
  | 71 => ⟨S256x64, .f32⟩
  | 72 => ⟨S256x64, .f32⟩
  | 73 => ⟨S256x64, .f32⟩
  | 74 => ⟨S256x64, .f32⟩
  | 75 => ⟨S256x1, .f32⟩
  | 76 => ⟨S16, .f32⟩
  | 77 => ⟨S1x16, .f32⟩
  | 78 => ⟨S256x16, .f32⟩
  | 79 => ⟨S256x16, .f32⟩
  | 80 => ⟨S256x16, .f32⟩
  | 81 => ⟨S_, .f32⟩
  | 82 => ⟨S256x16, .f32⟩
  | 83 => ⟨S256x16, .f32⟩
  | 84 => ⟨S256x1, .f32⟩
  | 85 => ⟨S16, .f32⟩
  | 86 => ⟨S1x16, .f32⟩
  | 87 => ⟨S256x16, .f32⟩
  | 88 => ⟨S256x16, .f32⟩
  | 89 => ⟨S256x16, .f32⟩
  | 90 => ⟨S_, .f32⟩
  | 91 => ⟨S256x16, .f32⟩
  | 92 => ⟨S256x16, .f32⟩
  | 93 => ⟨S256x1x16x1, .f32⟩
  | 94 => ⟨S256x64x1x1, .f32⟩
  | 95 => ⟨S256x64x16x1, .f32⟩
  | 96 => ⟨S256x64x16x1, .f32⟩
  | 97 => ⟨S256x64x16x1, .f32⟩
  | 98 => ⟨S256x1x1x16, .f32⟩
  | 99 => ⟨S256x64x1x1, .f32⟩
  | 100 => ⟨S256x64x1x16, .f32⟩
  | 101 => ⟨S256x64x1x16, .f32⟩
  | 102 => ⟨S256x64x1x16, .f32⟩
  | 103 => ⟨S256x64x1x1, .f32⟩
  | 104 => ⟨S256x64x16x1, .f32⟩
  | 105 => ⟨S256x64x16x1, .f32⟩
  | 106 => ⟨S256x64x16x1, .f32⟩
  | 107 => ⟨S256x64x1x1, .f32⟩
  | 108 => ⟨S256x64x1x16, .f32⟩
  | 109 => ⟨S256x64x1x16, .f32⟩
  | 110 => ⟨S256x64x1x16, .f32⟩
  | 111 => ⟨S256x64x16x16, .f32⟩
  | 112 => ⟨S256x64x16x16, .f32⟩
  | 113 => ⟨S256x64x16x16, .f32⟩
  | 114 => ⟨S256x64, .f32⟩
  | 115 => ⟨S256x64x1x1, .f32⟩
  | 116 => ⟨S256x64x16x1, .f32⟩
  | 117 => ⟨S256x64x16x1, .f32⟩
  | 118 => ⟨S256x64x16x16, .f32⟩
  | 119 => ⟨S256x64x16x16, .f32⟩
  | 120 => ⟨S256x64x16x16, .f32⟩
  | 121 => ⟨S256x64x16x16, .f32⟩
  | 122 => ⟨S_, .f32⟩
  | 123 => ⟨S256x64x16x16, .f32⟩
  | 124 => ⟨S256x64x16x16, .f32⟩
  | 125 => ⟨S_, .f32⟩
  | 126 => ⟨S256x64x16x16, .f32⟩
  | 127 => ⟨S256x64x16x16, .f32⟩
  | _ => ⟨S100000x3, .f32⟩

abbrev hbmTy0_5 (i : Nat) : BufTy := match i % 128 with
  | 0 => ⟨S256x64x16x16, .f32⟩
  | 1 => ⟨S256x64x1x1, .f32⟩
  | 2 => ⟨S256x64x16x16, .f32⟩
  | 3 => ⟨S256x64x16x16, .f32⟩
  | 4 => ⟨S_, .f32⟩
  | 5 => ⟨S_, .f32⟩
  | 6 => ⟨S_, .f32⟩
  | 7 => ⟨S256x64x16x16, .f32⟩
  | 8 => ⟨S256x64x16x16, .f32⟩
  | 9 => ⟨S_, .f32⟩
  | 10 => ⟨S256x64x16x16, .f32⟩
  | 11 => ⟨S256x64x16x16, .f32⟩
  | 12 => ⟨S256x64x1x1, .f32⟩
  | 13 => ⟨S256x64x16x16, .f32⟩
  | 14 => ⟨S256x64x16x16, .f32⟩
  | 15 => ⟨S256x16x16x64, .f32⟩
  | 16 => ⟨S64, .i32⟩
  | 17 => ⟨S1x64, .i32⟩
  | 18 => ⟨S64x1, .i32⟩
  | 19 => ⟨S64x64, .i32⟩
  | 20 => ⟨S64x64, .i32⟩
  | 21 => ⟨S64x64, .i1⟩
  | 22 => ⟨S256x16x16x1x64, .f32⟩
  | 23 => ⟨S_, .f32⟩
  | 24 => ⟨S256x16x16x1x64, .f32⟩
  | 25 => ⟨S256x16x16x1x64, .f32⟩
  | 26 => ⟨S_, .f32⟩
  | 27 => ⟨S_, .f32⟩
  | 28 => ⟨S256x16x16x64x64, .i1⟩
  | 29 => ⟨S256x16x16x64x64, .f32⟩
  | 30 => ⟨S256x16x16x64x64, .f32⟩
  | 31 => ⟨S256x16x16x64x64, .f32⟩
  | 32 => ⟨S256x16x16x64x32, .f32⟩
  | 33 => ⟨S256x16x16x64x32, .f32⟩
  | 34 => ⟨S256x16x16x64x32, .f32⟩
  | 35 => ⟨S256x16x16x64x16, .f32⟩
  | 36 => ⟨S256x16x16x64x16, .f32⟩
  | 37 => ⟨S256x16x16x64x16, .f32⟩
  | 38 => ⟨S256x16x16x64x8, .f32⟩
  | 39 => ⟨S256x16x16x64x8, .f32⟩
  | 40 => ⟨S256x16x16x64x8, .f32⟩
  | 41 => ⟨S256x16x16x64x4, .f32⟩
  | 42 => ⟨S256x16x16x64x4, .f32⟩
  | 43 => ⟨S256x16x16x64x4, .f32⟩
  | 44 => ⟨S256x16x16x64x2, .f32⟩
  | 45 => ⟨S256x16x16x64x2, .f32⟩
  | 46 => ⟨S256x16x16x64x2, .f32⟩
  | 47 => ⟨S256x16x16x64x1, .f32⟩
  | 48 => ⟨S256x16x16x64x1, .f32⟩
  | 49 => ⟨S256x16x16x64x1, .f32⟩
  | 50 => ⟨S256x16x16x64, .f32⟩
  | 51 => ⟨S256x16x16x64, .f32⟩
  | 52 => ⟨S256x16x16x3, .f32⟩
  | 53 => ⟨S16x16x16x16x3, .f32⟩
  | 54 => ⟨S16x16x16x16x3, .f32⟩
  | 55 => ⟨S256x256x3, .f32⟩
  | _ => ⟨S100000x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_10 : Ref sig .tc := ⟨.hbm, 82, rfl⟩
abbrev main_v60 : Ref sig .tc := ⟨.hbm, 83, rfl⟩
abbrev main_v61 : Ref sig .tc := ⟨.hbm, 84, rfl⟩
abbrev main_cst_11 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_cst_12 : Ref sig .tc := ⟨.hbm, 118, rfl⟩
abbrev main_v94 : Ref sig .tc := ⟨.hbm, 119, rfl⟩
abbrev main_v95 : Ref sig .tc := ⟨.hbm, 120, rfl⟩
abbrev main_cst_13 : Ref sig .tc := ⟨.hbm, 121, rfl⟩
abbrev main_v96 : Ref sig .tc := ⟨.hbm, 122, rfl⟩
abbrev main_v97 : Ref sig .tc := ⟨.hbm, 123, rfl⟩
abbrev main_cst_14 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_cst_15 : Ref sig .tc := ⟨.hbm, 128, rfl⟩
abbrev main_v101 : Ref sig .tc := ⟨.hbm, 129, rfl⟩
abbrev main_v102 : Ref sig .tc := ⟨.hbm, 130, rfl⟩
abbrev main_cst_16 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_cst_17 : Ref sig .tc := ⟨.hbm, 135, rfl⟩
abbrev main_v106 : Ref sig .tc := ⟨.hbm, 136, rfl⟩
abbrev main_v107 : Ref sig .tc := ⟨.hbm, 137, rfl⟩
abbrev main_cst_18 : Ref sig .tc := ⟨.hbm, 138, rfl⟩
abbrev main_v108 : Ref sig .tc := ⟨.hbm, 139, rfl⟩
abbrev main_v109 : Ref sig .tc := ⟨.hbm, 140, rfl⟩
abbrev main_cst_19 : Ref sig .tc := ⟨.hbm, 141, rfl⟩
abbrev main_v110 : Ref sig .tc := ⟨.hbm, 142, rfl⟩
abbrev main_cst_20 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_cst_21 : Ref sig .tc := ⟨.hbm, 152, rfl⟩
abbrev main_v119 : Ref sig .tc := ⟨.hbm, 153, rfl⟩
abbrev main_cst_22 : Ref sig .tc := ⟨.hbm, 154, rfl⟩
abbrev main_v120 : Ref sig .tc := ⟨.hbm, 155, rfl⟩
abbrev main_v121 : Ref sig .tc := ⟨.hbm, 156, rfl⟩
abbrev main_cst_23 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_c : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_cst_24 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_call1_v0 : Ref sig .tc := ⟨.hbm, 189, rfl⟩
abbrev main_call1_cst : Ref sig .tc := ⟨.hbm, 190, rfl⟩
abbrev main_call1_v1 : Ref sig .tc := ⟨.hbm, 191, rfl⟩
abbrev main_call1_v2 : Ref sig .tc := ⟨.hbm, 192, rfl⟩
abbrev main_v151 : Ref sig .tc := ⟨.hbm, 193, rfl⟩
abbrev main_cst_25 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_cst_26 : Ref sig .tc := ⟨.hbm, 205, rfl⟩
abbrev main_v162 : Ref sig .tc := ⟨.hbm, 206, rfl⟩
abbrev main_v163 : Ref sig .tc := ⟨.hbm, 207, rfl⟩
abbrev main_cst_27 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_cst_28 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_cst_29 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_cst_30 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_cst_31 : Ref sig .tc := ⟨.hbm, 246, rfl⟩
abbrev main_v198 : Ref sig .tc := ⟨.hbm, 247, rfl⟩
abbrev main_v199 : Ref sig .tc := ⟨.hbm, 248, rfl⟩
abbrev main_v200 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩
abbrev main_cst_32 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_cst_33 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_cst_34 : Ref sig .tc := ⟨.hbm, 267, rfl⟩
abbrev main_v216 : Ref sig .tc := ⟨.hbm, 268, rfl⟩
abbrev main_v217 : Ref sig .tc := ⟨.hbm, 269, rfl⟩
abbrev main_v218 : Ref sig .tc := ⟨.hbm, 270, rfl⟩
abbrev main_v219 : Ref sig .tc := ⟨.hbm, 271, rfl⟩
abbrev main_v220 : Ref sig .tc := ⟨.hbm, 272, rfl⟩
abbrev main_v221 : Ref sig .tc := ⟨.hbm, 273, rfl⟩
abbrev main_v222 : Ref sig .tc := ⟨.hbm, 274, rfl⟩
abbrev main_v223 : Ref sig .tc := ⟨.hbm, 275, rfl⟩
abbrev main_cst_35 : Ref sig .tc := ⟨.hbm, 276, rfl⟩
abbrev main_v224 : Ref sig .tc := ⟨.hbm, 277, rfl⟩
abbrev main_v225 : Ref sig .tc := ⟨.hbm, 278, rfl⟩
abbrev main_v226 : Ref sig .tc := ⟨.hbm, 279, rfl⟩
abbrev main_v227 : Ref sig .tc := ⟨.hbm, 280, rfl⟩
abbrev main_v228 : Ref sig .tc := ⟨.hbm, 281, rfl⟩
abbrev main_v229 : Ref sig .tc := ⟨.hbm, 282, rfl⟩
abbrev main_v230 : Ref sig .tc := ⟨.hbm, 283, rfl⟩
abbrev main_cst_36 : Ref sig .tc := ⟨.hbm, 284, rfl⟩
abbrev main_v231 : Ref sig .tc := ⟨.hbm, 285, rfl⟩
abbrev main_v232 : Ref sig .tc := ⟨.hbm, 286, rfl⟩
abbrev main_cst_37 : Ref sig .tc := ⟨.hbm, 287, rfl⟩
abbrev main_v233 : Ref sig .tc := ⟨.hbm, 288, rfl⟩
abbrev main_v234 : Ref sig .tc := ⟨.hbm, 289, rfl⟩
abbrev main_v235 : Ref sig .tc := ⟨.hbm, 290, rfl⟩
abbrev main_v236 : Ref sig .tc := ⟨.hbm, 291, rfl⟩
abbrev main_v237 : Ref sig .tc := ⟨.hbm, 292, rfl⟩
abbrev main_v238 : Ref sig .tc := ⟨.hbm, 293, rfl⟩
abbrev main_v239 : Ref sig .tc := ⟨.hbm, 294, rfl⟩
abbrev main_v240 : Ref sig .tc := ⟨.hbm, 295, rfl⟩
abbrev main_v241 : Ref sig .tc := ⟨.hbm, 296, rfl⟩
abbrev main_cst_38 : Ref sig .tc := ⟨.hbm, 297, rfl⟩
abbrev main_v242 : Ref sig .tc := ⟨.hbm, 298, rfl⟩
abbrev main_v243 : Ref sig .tc := ⟨.hbm, 299, rfl⟩
abbrev main_v244 : Ref sig .tc := ⟨.hbm, 300, rfl⟩
abbrev main_v245 : Ref sig .tc := ⟨.hbm, 301, rfl⟩
abbrev main_v246 : Ref sig .tc := ⟨.hbm, 302, rfl⟩
abbrev main_v247 : Ref sig .tc := ⟨.hbm, 303, rfl⟩
abbrev main_v248 : Ref sig .tc := ⟨.hbm, 304, rfl⟩
abbrev main_v249 : Ref sig .tc := ⟨.hbm, 305, rfl⟩
abbrev main_cst_39 : Ref sig .tc := ⟨.hbm, 306, rfl⟩
abbrev main_v250 : Ref sig .tc := ⟨.hbm, 307, rfl⟩
abbrev main_v251 : Ref sig .tc := ⟨.hbm, 308, rfl⟩
abbrev main_cst_40 : Ref sig .tc := ⟨.hbm, 309, rfl⟩
abbrev main_v252 : Ref sig .tc := ⟨.hbm, 310, rfl⟩
abbrev main_v253 : Ref sig .tc := ⟨.hbm, 311, rfl⟩
abbrev main_v254 : Ref sig .tc := ⟨.hbm, 312, rfl⟩
abbrev main_v255 : Ref sig .tc := ⟨.hbm, 313, rfl⟩
abbrev main_v256 : Ref sig .tc := ⟨.hbm, 314, rfl⟩
abbrev main_v257 : Ref sig .tc := ⟨.hbm, 315, rfl⟩
abbrev main_v258 : Ref sig .tc := ⟨.hbm, 316, rfl⟩
abbrev main_v259 : Ref sig .tc := ⟨.hbm, 317, rfl⟩
abbrev main_v260 : Ref sig .tc := ⟨.hbm, 318, rfl⟩
abbrev main_v261 : Ref sig .tc := ⟨.hbm, 319, rfl⟩
abbrev main_cst_41 : Ref sig .tc := ⟨.hbm, 320, rfl⟩
abbrev main_v262 : Ref sig .tc := ⟨.hbm, 321, rfl⟩
abbrev main_v263 : Ref sig .tc := ⟨.hbm, 322, rfl⟩
abbrev main_cst_42 : Ref sig .tc := ⟨.hbm, 323, rfl⟩
abbrev main_v264 : Ref sig .tc := ⟨.hbm, 324, rfl⟩
abbrev main_v265 : Ref sig .tc := ⟨.hbm, 325, rfl⟩
abbrev main_cst_43 : Ref sig .tc := ⟨.hbm, 326, rfl⟩
abbrev main_v266 : Ref sig .tc := ⟨.hbm, 327, rfl⟩
abbrev main_v267 : Ref sig .tc := ⟨.hbm, 328, rfl⟩
abbrev main_v268 : Ref sig .tc := ⟨.hbm, 329, rfl⟩
abbrev main_cst_44 : Ref sig .tc := ⟨.hbm, 330, rfl⟩
abbrev main_v269 : Ref sig .tc := ⟨.hbm, 331, rfl⟩
abbrev main_v270 : Ref sig .tc := ⟨.hbm, 332, rfl⟩
abbrev main_v271 : Ref sig .tc := ⟨.hbm, 333, rfl⟩
abbrev main_v272 : Ref sig .tc := ⟨.hbm, 334, rfl⟩
abbrev main_v273 : Ref sig .tc := ⟨.hbm, 335, rfl⟩
abbrev main_v274 : Ref sig .tc := ⟨.hbm, 336, rfl⟩
abbrev main_v275 : Ref sig .tc := ⟨.hbm, 337, rfl⟩
abbrev main_v276 : Ref sig .tc := ⟨.hbm, 338, rfl⟩
abbrev main_v277 : Ref sig .tc := ⟨.hbm, 339, rfl⟩
abbrev main_cst_45 : Ref sig .tc := ⟨.hbm, 340, rfl⟩
abbrev main_v278 : Ref sig .tc := ⟨.hbm, 341, rfl⟩
abbrev main_v279 : Ref sig .tc := ⟨.hbm, 342, rfl⟩
abbrev main_cst_46 : Ref sig .tc := ⟨.hbm, 343, rfl⟩
abbrev main_v280 : Ref sig .tc := ⟨.hbm, 344, rfl⟩
abbrev main_v281 : Ref sig .tc := ⟨.hbm, 345, rfl⟩
abbrev main_v282 : Ref sig .tc := ⟨.hbm, 346, rfl⟩
abbrev main_v283 : Ref sig .tc := ⟨.hbm, 347, rfl⟩
abbrev main_v284 : Ref sig .tc := ⟨.hbm, 348, rfl⟩
abbrev main_v285 : Ref sig .tc := ⟨.hbm, 349, rfl⟩
abbrev main_v286 : Ref sig .tc := ⟨.hbm, 350, rfl⟩
abbrev main_v287 : Ref sig .tc := ⟨.hbm, 351, rfl⟩
abbrev main_v288 : Ref sig .tc := ⟨.hbm, 352, rfl⟩
abbrev main_v289 : Ref sig .tc := ⟨.hbm, 353, rfl⟩
abbrev main_cst_47 : Ref sig .tc := ⟨.hbm, 354, rfl⟩
abbrev main_v290 : Ref sig .tc := ⟨.hbm, 355, rfl⟩
abbrev main_v291 : Ref sig .tc := ⟨.hbm, 356, rfl⟩
abbrev main_v292 : Ref sig .tc := ⟨.hbm, 357, rfl⟩
abbrev main_v293 : Ref sig .tc := ⟨.hbm, 358, rfl⟩
abbrev main_v294 : Ref sig .tc := ⟨.hbm, 359, rfl⟩
abbrev main_v295 : Ref sig .tc := ⟨.hbm, 360, rfl⟩
abbrev main_v296 : Ref sig .tc := ⟨.hbm, 361, rfl⟩
abbrev main_v297 : Ref sig .tc := ⟨.hbm, 362, rfl⟩
abbrev main_v298 : Ref sig .tc := ⟨.hbm, 363, rfl⟩
abbrev main_cst_48 : Ref sig .tc := ⟨.hbm, 364, rfl⟩
abbrev main_v299 : Ref sig .tc := ⟨.hbm, 365, rfl⟩
abbrev main_v300 : Ref sig .tc := ⟨.hbm, 366, rfl⟩
abbrev main_cst_49 : Ref sig .tc := ⟨.hbm, 367, rfl⟩
abbrev main_v301 : Ref sig .tc := ⟨.hbm, 368, rfl⟩
abbrev main_v302 : Ref sig .tc := ⟨.hbm, 369, rfl⟩
abbrev main_v303 : Ref sig .tc := ⟨.hbm, 370, rfl⟩
abbrev main_v304 : Ref sig .tc := ⟨.hbm, 371, rfl⟩
abbrev main_v305 : Ref sig .tc := ⟨.hbm, 372, rfl⟩
abbrev main_v306 : Ref sig .tc := ⟨.hbm, 373, rfl⟩
abbrev main_v307 : Ref sig .tc := ⟨.hbm, 374, rfl⟩
abbrev main_v308 : Ref sig .tc := ⟨.hbm, 375, rfl⟩
abbrev main_v309 : Ref sig .tc := ⟨.hbm, 376, rfl⟩
abbrev main_cst_50 : Ref sig .tc := ⟨.hbm, 377, rfl⟩
abbrev main_v310 : Ref sig .tc := ⟨.hbm, 378, rfl⟩
abbrev main_v311 : Ref sig .tc := ⟨.hbm, 379, rfl⟩
abbrev main_cst_51 : Ref sig .tc := ⟨.hbm, 380, rfl⟩
abbrev main_call2_v0 : Ref sig .tc := ⟨.hbm, 381, rfl⟩
abbrev main_call2_v1 : Ref sig .tc := ⟨.hbm, 382, rfl⟩
abbrev main_v312 : Ref sig .tc := ⟨.hbm, 383, rfl⟩
abbrev main_v313 : Ref sig .tc := ⟨.hbm, 384, rfl⟩
abbrev main_v314 : Ref sig .tc := ⟨.hbm, 385, rfl⟩
abbrev main_v315 : Ref sig .tc := ⟨.hbm, 386, rfl⟩
abbrev main_v316 : Ref sig .tc := ⟨.hbm, 387, rfl⟩
abbrev main_v317 : Ref sig .tc := ⟨.hbm, 388, rfl⟩
abbrev main_v318 : Ref sig .tc := ⟨.hbm, 389, rfl⟩
abbrev main_v319 : Ref sig .tc := ⟨.hbm, 390, rfl⟩
abbrev main_v320 : Ref sig .tc := ⟨.hbm, 391, rfl⟩
abbrev main_v321 : Ref sig .tc := ⟨.hbm, 392, rfl⟩
abbrev main_v322 : Ref sig .tc := ⟨.hbm, 393, rfl⟩
abbrev main_v323 : Ref sig .tc := ⟨.hbm, 394, rfl⟩
abbrev main_v324 : Ref sig .tc := ⟨.hbm, 395, rfl⟩
abbrev main_v325 : Ref sig .tc := ⟨.hbm, 396, rfl⟩
abbrev main_v326 : Ref sig .tc := ⟨.hbm, 397, rfl⟩
abbrev main_v327 : Ref sig .tc := ⟨.hbm, 398, rfl⟩
abbrev main_v328 : Ref sig .tc := ⟨.hbm, 399, rfl⟩
abbrev main_cst_52 : Ref sig .tc := ⟨.hbm, 400, rfl⟩
abbrev main_v329 : Ref sig .tc := ⟨.hbm, 401, rfl⟩
abbrev main_v330 : Ref sig .tc := ⟨.hbm, 402, rfl⟩
abbrev main_v331 : Ref sig .tc := ⟨.hbm, 403, rfl⟩
abbrev main_cst_53 : Ref sig .tc := ⟨.hbm, 404, rfl⟩
abbrev main_v332 : Ref sig .tc := ⟨.hbm, 405, rfl⟩
abbrev main_v333 : Ref sig .tc := ⟨.hbm, 406, rfl⟩
abbrev main_v334 : Ref sig .tc := ⟨.hbm, 407, rfl⟩
abbrev main_cst_54 : Ref sig .tc := ⟨.hbm, 408, rfl⟩
abbrev main_call3_v0 : Ref sig .tc := ⟨.hbm, 409, rfl⟩
abbrev main_call3_v1 : Ref sig .tc := ⟨.hbm, 410, rfl⟩
abbrev main_v335 : Ref sig .tc := ⟨.hbm, 411, rfl⟩
abbrev main_v336 : Ref sig .tc := ⟨.hbm, 412, rfl⟩
abbrev main_cst_55 : Ref sig .tc := ⟨.hbm, 413, rfl⟩
abbrev main_v337 : Ref sig .tc := ⟨.hbm, 414, rfl⟩
abbrev main_v338 : Ref sig .tc := ⟨.hbm, 415, rfl⟩
abbrev main_v339 : Ref sig .tc := ⟨.hbm, 416, rfl⟩
abbrev main_v340 : Ref sig .tc := ⟨.hbm, 417, rfl⟩
abbrev main_v341 : Ref sig .tc := ⟨.hbm, 418, rfl⟩
abbrev main_v342 : Ref sig .tc := ⟨.hbm, 419, rfl⟩
abbrev main_cst_56 : Ref sig .tc := ⟨.hbm, 420, rfl⟩
abbrev main_v343 : Ref sig .tc := ⟨.hbm, 421, rfl⟩
abbrev main_v344 : Ref sig .tc := ⟨.hbm, 422, rfl⟩
abbrev main_v345 : Ref sig .tc := ⟨.hbm, 423, rfl⟩
abbrev main_c_57 : Ref sig .tc := ⟨.hbm, 424, rfl⟩
abbrev main_call4_v0 : Ref sig .tc := ⟨.hbm, 425, rfl⟩
abbrev main_call4_v1 : Ref sig .tc := ⟨.hbm, 426, rfl⟩
abbrev main_call4_v2 : Ref sig .tc := ⟨.hbm, 427, rfl⟩
abbrev main_call4_v3 : Ref sig .tc := ⟨.hbm, 428, rfl⟩
abbrev main_call4_v4 : Ref sig .tc := ⟨.hbm, 429, rfl⟩
abbrev main_call4_v5 : Ref sig .tc := ⟨.hbm, 430, rfl⟩
abbrev main_call4_v6 : Ref sig .tc := ⟨.hbm, 431, rfl⟩
abbrev main_call4_v7 : Ref sig .tc := ⟨.hbm, 432, rfl⟩
abbrev main_call4_v8 : Ref sig .tc := ⟨.hbm, 433, rfl⟩
abbrev main_call4_c : Ref sig .tc := ⟨.hbm, 434, rfl⟩
abbrev main_call4_v9 : Ref sig .tc := ⟨.hbm, 435, rfl⟩
abbrev main_call4_v10 : Ref sig .tc := ⟨.hbm, 436, rfl⟩
abbrev main_call4_v11 : Ref sig .tc := ⟨.hbm, 437, rfl⟩
abbrev main_call4_c_0 : Ref sig .tc := ⟨.hbm, 438, rfl⟩
abbrev main_call4_v12 : Ref sig .tc := ⟨.hbm, 439, rfl⟩
abbrev main_call4_v13 : Ref sig .tc := ⟨.hbm, 440, rfl⟩
abbrev main_v346 : Ref sig .tc := ⟨.hbm, 441, rfl⟩
abbrev main_c_58 : Ref sig .tc := ⟨.hbm, 442, rfl⟩
abbrev main_call5_v0 : Ref sig .tc := ⟨.hbm, 443, rfl⟩
abbrev main_call5_c : Ref sig .tc := ⟨.hbm, 444, rfl⟩
abbrev main_call5_v1 : Ref sig .tc := ⟨.hbm, 445, rfl⟩
abbrev main_call5_c_0 : Ref sig .tc := ⟨.hbm, 446, rfl⟩
abbrev main_call5_v2 : Ref sig .tc := ⟨.hbm, 447, rfl⟩
abbrev main_call5_v3 : Ref sig .tc := ⟨.hbm, 448, rfl⟩
abbrev main_call5_v4 : Ref sig .tc := ⟨.hbm, 449, rfl⟩
abbrev main_call5_c_1 : Ref sig .tc := ⟨.hbm, 450, rfl⟩
abbrev main_call5_v5 : Ref sig .tc := ⟨.hbm, 451, rfl⟩
abbrev main_call5_v6 : Ref sig .tc := ⟨.hbm, 452, rfl⟩
abbrev main_call5_c_2 : Ref sig .tc := ⟨.hbm, 453, rfl⟩
abbrev main_call5_v7 : Ref sig .tc := ⟨.hbm, 454, rfl⟩
abbrev main_call5_v8 : Ref sig .tc := ⟨.hbm, 455, rfl⟩
abbrev main_call5_c_3 : Ref sig .tc := ⟨.hbm, 456, rfl⟩
abbrev main_call5_v9 : Ref sig .tc := ⟨.hbm, 457, rfl⟩
abbrev main_call5_v10 : Ref sig .tc := ⟨.hbm, 458, rfl⟩
abbrev main_call5_v11 : Ref sig .tc := ⟨.hbm, 459, rfl⟩
abbrev main_call5_v12 : Ref sig .tc := ⟨.hbm, 460, rfl⟩
abbrev main_call5_v13 : Ref sig .tc := ⟨.hbm, 461, rfl⟩
abbrev main_call5_v14 : Ref sig .tc := ⟨.hbm, 462, rfl⟩
abbrev main_v347 : Ref sig .tc := ⟨.hbm, 463, rfl⟩
abbrev main_c_59 : Ref sig .tc := ⟨.hbm, 464, rfl⟩
abbrev main_v348 : Ref sig .tc := ⟨.hbm, 465, rfl⟩
abbrev main_v349 : Ref sig .tc := ⟨.hbm, 466, rfl⟩
abbrev main_v350 : Ref sig .tc := ⟨.hbm, 467, rfl⟩
abbrev main_c_60 : Ref sig .tc := ⟨.hbm, 468, rfl⟩
abbrev main_v351 : Ref sig .tc := ⟨.hbm, 469, rfl⟩
abbrev main_v352 : Ref sig .tc := ⟨.hbm, 470, rfl⟩
abbrev main_v353 : Ref sig .tc := ⟨.hbm, 471, rfl⟩
abbrev main_v354 : Ref sig .tc := ⟨.hbm, 472, rfl⟩
abbrev main_v355 : Ref sig .tc := ⟨.hbm, 473, rfl⟩
abbrev main_v356 : Ref sig .tc := ⟨.hbm, 474, rfl⟩
abbrev main_v357 : Ref sig .tc := ⟨.hbm, 475, rfl⟩
abbrev main_v358 : Ref sig .tc := ⟨.hbm, 476, rfl⟩
abbrev main_v359 : Ref sig .tc := ⟨.hbm, 477, rfl⟩
abbrev main_v360 : Ref sig .tc := ⟨.hbm, 478, rfl⟩
abbrev main_v361 : Ref sig .tc := ⟨.hbm, 479, rfl⟩
abbrev main_v362 : Ref sig .tc := ⟨.hbm, 480, rfl⟩
abbrev main_v363 : Ref sig .tc := ⟨.hbm, 481, rfl⟩
abbrev main_v364 : Ref sig .tc := ⟨.hbm, 482, rfl⟩
abbrev main_cst_61 : Ref sig .tc := ⟨.hbm, 483, rfl⟩
abbrev main_v365 : Ref sig .tc := ⟨.hbm, 484, rfl⟩
abbrev main_v366 : Ref sig .tc := ⟨.hbm, 485, rfl⟩
abbrev main_v367 : Ref sig .tc := ⟨.hbm, 486, rfl⟩
abbrev main_v368 : Ref sig .tc := ⟨.hbm, 487, rfl⟩
abbrev main_v369 : Ref sig .tc := ⟨.hbm, 488, rfl⟩
abbrev main_v370 : Ref sig .tc := ⟨.hbm, 489, rfl⟩
abbrev main_v371 : Ref sig .tc := ⟨.hbm, 490, rfl⟩
abbrev main_v372 : Ref sig .tc := ⟨.hbm, 491, rfl⟩
abbrev main_v373 : Ref sig .tc := ⟨.hbm, 492, rfl⟩
abbrev main_v374 : Ref sig .tc := ⟨.hbm, 493, rfl⟩
abbrev main_v375 : Ref sig .tc := ⟨.hbm, 494, rfl⟩
abbrev main_v376 : Ref sig .tc := ⟨.hbm, 495, rfl⟩
abbrev main_v377 : Ref sig .tc := ⟨.hbm, 496, rfl⟩
abbrev main_v378 : Ref sig .tc := ⟨.hbm, 497, rfl⟩
abbrev main_v379 : Ref sig .tc := ⟨.hbm, 498, rfl⟩
abbrev main_v380 : Ref sig .tc := ⟨.hbm, 499, rfl⟩
abbrev main_v381 : Ref sig .tc := ⟨.hbm, 500, rfl⟩
abbrev main_cst_62 : Ref sig .tc := ⟨.hbm, 501, rfl⟩
abbrev main_v382 : Ref sig .tc := ⟨.hbm, 502, rfl⟩
abbrev main_v383 : Ref sig .tc := ⟨.hbm, 503, rfl⟩
abbrev main_v384 : Ref sig .tc := ⟨.hbm, 504, rfl⟩
abbrev main_v385 : Ref sig .tc := ⟨.hbm, 505, rfl⟩
abbrev main_v386 : Ref sig .tc := ⟨.hbm, 506, rfl⟩
abbrev main_v387 : Ref sig .tc := ⟨.hbm, 507, rfl⟩
abbrev main_v388 : Ref sig .tc := ⟨.hbm, 508, rfl⟩
abbrev main_v389 : Ref sig .tc := ⟨.hbm, 509, rfl⟩
abbrev main_v390 : Ref sig .tc := ⟨.hbm, 510, rfl⟩
abbrev main_v391 : Ref sig .tc := ⟨.hbm, 511, rfl⟩
abbrev main_v392 : Ref sig .tc := ⟨.hbm, 512, rfl⟩
abbrev main_v393 : Ref sig .tc := ⟨.hbm, 513, rfl⟩
abbrev main_cst_63 : Ref sig .tc := ⟨.hbm, 514, rfl⟩
abbrev main_call6_v0 : Ref sig .tc := ⟨.hbm, 515, rfl⟩
abbrev main_call6_v1 : Ref sig .tc := ⟨.hbm, 516, rfl⟩
abbrev main_call6_v2 : Ref sig .tc := ⟨.hbm, 517, rfl⟩
abbrev main_v394 : Ref sig .tc := ⟨.hbm, 518, rfl⟩
abbrev main_values : Ref sig .tc := ⟨.hbm, 519, rfl⟩
abbrev main_indices : Ref sig .tc := ⟨.hbm, 520, rfl⟩
abbrev main_cst_64 : Ref sig .tc := ⟨.hbm, 521, rfl⟩
abbrev main_v395 : Ref sig .tc := ⟨.hbm, 522, rfl⟩
abbrev main_v396 : Ref sig .tc := ⟨.hbm, 523, rfl⟩
abbrev main_v397 : Ref sig .tc := ⟨.hbm, 524, rfl⟩
abbrev main_c_65 : Ref sig .tc := ⟨.hbm, 525, rfl⟩
abbrev main_v398 : Ref sig .tc := ⟨.hbm, 526, rfl⟩
abbrev main_v399 : Ref sig .tc := ⟨.hbm, 527, rfl⟩
abbrev main_c_66 : Ref sig .tc := ⟨.hbm, 528, rfl⟩
abbrev main_v400 : Ref sig .tc := ⟨.hbm, 529, rfl⟩
abbrev main_v401 : Ref sig .tc := ⟨.hbm, 530, rfl⟩
abbrev main_v402 : Ref sig .tc := ⟨.hbm, 531, rfl⟩
abbrev main_v403 : Ref sig .tc := ⟨.hbm, 532, rfl⟩
abbrev main_v404 : Ref sig .tc := ⟨.hbm, 533, rfl⟩
abbrev main_c_67 : Ref sig .tc := ⟨.hbm, 534, rfl⟩
abbrev main_v405 : Ref sig .tc := ⟨.hbm, 535, rfl⟩
abbrev main_v406 : Ref sig .tc := ⟨.hbm, 536, rfl⟩
abbrev main_c_68 : Ref sig .tc := ⟨.hbm, 537, rfl⟩
abbrev main_v407 : Ref sig .tc := ⟨.hbm, 538, rfl⟩
abbrev main_v408 : Ref sig .tc := ⟨.hbm, 539, rfl⟩
abbrev main_v409 : Ref sig .tc := ⟨.hbm, 540, rfl⟩
abbrev main_v410 : Ref sig .tc := ⟨.hbm, 541, rfl⟩
abbrev main_v411 : Ref sig .tc := ⟨.hbm, 542, rfl⟩
abbrev main_c_69 : Ref sig .tc := ⟨.hbm, 543, rfl⟩
abbrev main_v412 : Ref sig .tc := ⟨.hbm, 544, rfl⟩
abbrev main_v413 : Ref sig .tc := ⟨.hbm, 545, rfl⟩
abbrev main_c_70 : Ref sig .tc := ⟨.hbm, 546, rfl⟩
abbrev main_v414 : Ref sig .tc := ⟨.hbm, 547, rfl⟩
abbrev main_v415 : Ref sig .tc := ⟨.hbm, 548, rfl⟩
abbrev main_v416 : Ref sig .tc := ⟨.hbm, 549, rfl⟩
abbrev main_v417 : Ref sig .tc := ⟨.hbm, 550, rfl⟩
abbrev main_v418 : Ref sig .tc := ⟨.hbm, 551, rfl⟩
abbrev main_c_71 : Ref sig .tc := ⟨.hbm, 552, rfl⟩
abbrev main_v419 : Ref sig .tc := ⟨.hbm, 553, rfl⟩
abbrev main_v420 : Ref sig .tc := ⟨.hbm, 554, rfl⟩
abbrev main_c_72 : Ref sig .tc := ⟨.hbm, 555, rfl⟩
abbrev main_v421 : Ref sig .tc := ⟨.hbm, 556, rfl⟩
abbrev main_v422 : Ref sig .tc := ⟨.hbm, 557, rfl⟩
abbrev main_v423 : Ref sig .tc := ⟨.hbm, 558, rfl⟩
abbrev main_v424 : Ref sig .tc := ⟨.hbm, 559, rfl⟩
abbrev main_v425 : Ref sig .tc := ⟨.hbm, 560, rfl⟩
abbrev main_c_73 : Ref sig .tc := ⟨.hbm, 561, rfl⟩
abbrev main_v426 : Ref sig .tc := ⟨.hbm, 562, rfl⟩
abbrev main_v427 : Ref sig .tc := ⟨.hbm, 563, rfl⟩
abbrev main_c_74 : Ref sig .tc := ⟨.hbm, 564, rfl⟩
abbrev main_v428 : Ref sig .tc := ⟨.hbm, 565, rfl⟩
abbrev main_v429 : Ref sig .tc := ⟨.hbm, 566, rfl⟩
abbrev main_v430 : Ref sig .tc := ⟨.hbm, 567, rfl⟩
abbrev main_v431 : Ref sig .tc := ⟨.hbm, 568, rfl⟩
abbrev main_v432 : Ref sig .tc := ⟨.hbm, 569, rfl⟩
abbrev main_v433 : Ref sig .tc := ⟨.hbm, 570, rfl⟩
abbrev main_v434 : Ref sig .tc := ⟨.hbm, 571, rfl⟩
abbrev main_v435 : Ref sig .tc := ⟨.hbm, 572, rfl⟩
abbrev main_v436 : Ref sig .tc := ⟨.hbm, 573, rfl⟩
abbrev main_v437 : Ref sig .tc := ⟨.hbm, 574, rfl⟩
abbrev main_v438 : Ref sig .tc := ⟨.hbm, 575, rfl⟩
abbrev main_v439 : Ref sig .tc := ⟨.hbm, 576, rfl⟩
abbrev main_v440 : Ref sig .tc := ⟨.hbm, 577, rfl⟩
abbrev main_v441 : Ref sig .tc := ⟨.hbm, 578, rfl⟩
abbrev main_v442 : Ref sig .tc := ⟨.hbm, 579, rfl⟩
abbrev main_v443 : Ref sig .tc := ⟨.hbm, 580, rfl⟩
abbrev main_v444 : Ref sig .tc := ⟨.hbm, 581, rfl⟩
abbrev main_v445 : Ref sig .tc := ⟨.hbm, 582, rfl⟩
abbrev main_v446 : Ref sig .tc := ⟨.hbm, 583, rfl⟩
abbrev main_v447 : Ref sig .tc := ⟨.hbm, 584, rfl⟩
abbrev main_v448 : Ref sig .tc := ⟨.hbm, 585, rfl⟩
abbrev main_v449 : Ref sig .tc := ⟨.hbm, 586, rfl⟩
abbrev main_v450 : Ref sig .tc := ⟨.hbm, 587, rfl⟩
abbrev main_v451 : Ref sig .tc := ⟨.hbm, 588, rfl⟩
abbrev main_v452 : Ref sig .tc := ⟨.hbm, 589, rfl⟩
abbrev main_v453 : Ref sig .tc := ⟨.hbm, 590, rfl⟩
abbrev main_v454 : Ref sig .tc := ⟨.hbm, 591, rfl⟩
abbrev main_v455 : Ref sig .tc := ⟨.hbm, 592, rfl⟩
abbrev main_cst_75 : Ref sig .tc := ⟨.hbm, 593, rfl⟩
abbrev main_v456 : Ref sig .tc := ⟨.hbm, 594, rfl⟩
abbrev main_v457 : Ref sig .tc := ⟨.hbm, 595, rfl⟩
abbrev main_v458 : Ref sig .tc := ⟨.hbm, 596, rfl⟩
abbrev main_v459 : Ref sig .tc := ⟨.hbm, 597, rfl⟩
abbrev main_v460 : Ref sig .tc := ⟨.hbm, 598, rfl⟩
abbrev main_v461 : Ref sig .tc := ⟨.hbm, 599, rfl⟩
abbrev main_v462 : Ref sig .tc := ⟨.hbm, 600, rfl⟩
abbrev main_v463 : Ref sig .tc := ⟨.hbm, 601, rfl⟩
abbrev main_cst_76 : Ref sig .tc := ⟨.hbm, 602, rfl⟩
abbrev main_v464 : Ref sig .tc := ⟨.hbm, 603, rfl⟩
abbrev main_v465 : Ref sig .tc := ⟨.hbm, 604, rfl⟩
abbrev main_v466 : Ref sig .tc := ⟨.hbm, 605, rfl⟩
abbrev main_v467 : Ref sig .tc := ⟨.hbm, 606, rfl⟩
abbrev main_v468 : Ref sig .tc := ⟨.hbm, 607, rfl⟩
abbrev main_v469 : Ref sig .tc := ⟨.hbm, 608, rfl⟩
abbrev main_v470 : Ref sig .tc := ⟨.hbm, 609, rfl⟩
abbrev main_v471 : Ref sig .tc := ⟨.hbm, 610, rfl⟩
abbrev main_v472 : Ref sig .tc := ⟨.hbm, 611, rfl⟩
abbrev main_v473 : Ref sig .tc := ⟨.hbm, 612, rfl⟩
abbrev main_v474 : Ref sig .tc := ⟨.hbm, 613, rfl⟩
abbrev main_v475 : Ref sig .tc := ⟨.hbm, 614, rfl⟩
abbrev main_v476 : Ref sig .tc := ⟨.hbm, 615, rfl⟩
abbrev main_v477 : Ref sig .tc := ⟨.hbm, 616, rfl⟩
abbrev main_v478 : Ref sig .tc := ⟨.hbm, 617, rfl⟩
abbrev main_v479 : Ref sig .tc := ⟨.hbm, 618, rfl⟩
abbrev main_v480 : Ref sig .tc := ⟨.hbm, 619, rfl⟩
abbrev main_v481 : Ref sig .tc := ⟨.hbm, 620, rfl⟩
abbrev main_v482 : Ref sig .tc := ⟨.hbm, 621, rfl⟩
abbrev main_v483 : Ref sig .tc := ⟨.hbm, 622, rfl⟩
abbrev main_v484 : Ref sig .tc := ⟨.hbm, 623, rfl⟩
abbrev main_v485 : Ref sig .tc := ⟨.hbm, 624, rfl⟩
abbrev main_v486 : Ref sig .tc := ⟨.hbm, 625, rfl⟩
abbrev main_v487 : Ref sig .tc := ⟨.hbm, 626, rfl⟩
abbrev main_v488 : Ref sig .tc := ⟨.hbm, 627, rfl⟩
abbrev main_v489 : Ref sig .tc := ⟨.hbm, 628, rfl⟩
abbrev main_v490 : Ref sig .tc := ⟨.hbm, 629, rfl⟩
abbrev main_v491 : Ref sig .tc := ⟨.hbm, 630, rfl⟩
abbrev main_v492 : Ref sig .tc := ⟨.hbm, 631, rfl⟩
abbrev main_v493 : Ref sig .tc := ⟨.hbm, 632, rfl⟩
abbrev main_v494 : Ref sig .tc := ⟨.hbm, 633, rfl⟩
abbrev main_cst_77 : Ref sig .tc := ⟨.hbm, 634, rfl⟩
abbrev main_v495 : Ref sig .tc := ⟨.hbm, 635, rfl⟩
abbrev main_v496 : Ref sig .tc := ⟨.hbm, 636, rfl⟩
abbrev main_cst_78 : Ref sig .tc := ⟨.hbm, 637, rfl⟩
abbrev main_v497 : Ref sig .tc := ⟨.hbm, 638, rfl⟩
abbrev main_v498 : Ref sig .tc := ⟨.hbm, 639, rfl⟩
abbrev main_v499 : Ref sig .tc := ⟨.hbm, 640, rfl⟩
abbrev main_v500 : Ref sig .tc := ⟨.hbm, 641, rfl⟩
abbrev main_v501 : Ref sig .tc := ⟨.hbm, 642, rfl⟩
abbrev main_v502 : Ref sig .tc := ⟨.hbm, 643, rfl⟩
abbrev main_cst_79 : Ref sig .tc := ⟨.hbm, 644, rfl⟩
abbrev main_cst_80 : Ref sig .tc := ⟨.hbm, 645, rfl⟩
abbrev main_call7_v0 : Ref sig .tc := ⟨.hbm, 646, rfl⟩
abbrev main_call7_v1 : Ref sig .tc := ⟨.hbm, 647, rfl⟩
abbrev main_call7_v2 : Ref sig .tc := ⟨.hbm, 648, rfl⟩
abbrev main_call7_v3 : Ref sig .tc := ⟨.hbm, 649, rfl⟩
abbrev main_call7_v4 : Ref sig .tc := ⟨.hbm, 650, rfl⟩
abbrev main_v503 : Ref sig .tc := ⟨.hbm, 651, rfl⟩
abbrev main_v504 : Ref sig .tc := ⟨.hbm, 652, rfl⟩
abbrev main_v505 : Ref sig .tc := ⟨.hbm, 653, rfl⟩
abbrev main_v506 : Ref sig .tc := ⟨.hbm, 654, rfl⟩
abbrev main_v507 : Ref sig .tc := ⟨.hbm, 655, rfl⟩
abbrev main_v508 : Ref sig .tc := ⟨.hbm, 656, rfl⟩
abbrev main_v509 : Ref sig .tc := ⟨.hbm, 657, rfl⟩
abbrev main_v510 : Ref sig .tc := ⟨.hbm, 658, rfl⟩
abbrev main_v511 : Ref sig .tc := ⟨.hbm, 659, rfl⟩
abbrev main_v512 : Ref sig .tc := ⟨.hbm, 660, rfl⟩
abbrev main_v513 : Ref sig .tc := ⟨.hbm, 661, rfl⟩
abbrev main_v514 : Ref sig .tc := ⟨.hbm, 662, rfl⟩
abbrev main_cst_81 : Ref sig .tc := ⟨.hbm, 663, rfl⟩
abbrev main_v515 : Ref sig .tc := ⟨.hbm, 664, rfl⟩
abbrev main_v516 : Ref sig .tc := ⟨.hbm, 665, rfl⟩
abbrev main_cst_82 : Ref sig .tc := ⟨.hbm, 666, rfl⟩
abbrev main_call8_v0 : Ref sig .tc := ⟨.hbm, 667, rfl⟩
abbrev main_call8_v1 : Ref sig .tc := ⟨.hbm, 668, rfl⟩
abbrev main_call8_v2 : Ref sig .tc := ⟨.hbm, 669, rfl⟩
abbrev main_call8_v3 : Ref sig .tc := ⟨.hbm, 670, rfl⟩
abbrev main_v517 : Ref sig .tc := ⟨.hbm, 671, rfl⟩
abbrev main_v518 : Ref sig .tc := ⟨.hbm, 672, rfl⟩
abbrev main_v519 : Ref sig .tc := ⟨.hbm, 673, rfl⟩
abbrev main_v520 : Ref sig .tc := ⟨.hbm, 674, rfl⟩
abbrev main_v521 : Ref sig .tc := ⟨.hbm, 675, rfl⟩
abbrev main_v522 : Ref sig .tc := ⟨.hbm, 676, rfl⟩
abbrev main_v523 : Ref sig .tc := ⟨.hbm, 677, rfl⟩
abbrev main_v524 : Ref sig .tc := ⟨.hbm, 678, rfl⟩
abbrev main_v525 : Ref sig .tc := ⟨.hbm, 679, rfl⟩
abbrev main_v526 : Ref sig .tc := ⟨.hbm, 680, rfl⟩
abbrev main_v527 : Ref sig .tc := ⟨.hbm, 681, rfl⟩
abbrev main_v528 : Ref sig .tc := ⟨.hbm, 682, rfl⟩
abbrev main_v529 : Ref sig .tc := ⟨.hbm, 683, rfl⟩
abbrev main_v530 : Ref sig .tc := ⟨.hbm, 684, rfl⟩
abbrev main_v531 : Ref sig .tc := ⟨.hbm, 685, rfl⟩
abbrev main_v532 : Ref sig .tc := ⟨.hbm, 686, rfl⟩
abbrev main_v533 : Ref sig .tc := ⟨.hbm, 687, rfl⟩
abbrev main_v534 : Ref sig .tc := ⟨.hbm, 688, rfl⟩
abbrev main_v535 : Ref sig .tc := ⟨.hbm, 689, rfl⟩
abbrev main_v536 : Ref sig .tc := ⟨.hbm, 690, rfl⟩
abbrev main_v537 : Ref sig .tc := ⟨.hbm, 691, rfl⟩
abbrev main_v538 : Ref sig .tc := ⟨.hbm, 692, rfl⟩
abbrev main_v539 : Ref sig .tc := ⟨.hbm, 693, rfl⟩
abbrev main_v540 : Ref sig .tc := ⟨.hbm, 694, rfl⟩
abbrev main_v541 : Ref sig .tc := ⟨.hbm, 695, rfl⟩

abbrev nD : Nat := 1
abbrev τ : Topo := Topo.v7x

variable {F : FTy → Type} [FloatOps F]
-- ==== Proof.Ref.lean ====
/- The reference: what its result array holds. -/
module

public import proofs.«01_k».proof.Proof.Gen.ReferenceIdeal
public import proofs.«01_k».proof.Proof.Gen.ReferenceIdeal.Run
public import proofs.«01_k».proof.Proof.Gen.ReferenceIdeal.Read

@[expose] public section
end
-- ==== Proof.Run.lean ====
/- The kernel's run: its result array ends at the contents that the fold of @main's items gives it, its argument
   arrays unchanged. -/
module

public import proofs.«01_k».proof.Proof.Gen.KernelIdeal.Frame

@[expose] public section

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The kernel terminates without a fault; every device's result array holds what the last boundary of @main's
    items (`W24`) holds there, and the argument arrays are unchanged. -/
theorem kernel_run : θ_run defs (onTc (τ := τ) (main (F := F))) ⟨m, fun _ => 0, ρ⟩ (fun r => ∀ c : Dev nD,
      r.2.mem ((c.tc : Thread nD τ).loc main_v131) = W24 m ρ c (Proc.devRef .tc main_v131)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h _ c =>
      ⟨h c _ (mem_uc main_v131 (by decide)),
       (h c _ (mem_uc main_arg0 (by decide))).trans (W24_main_arg0 m ρ c),
       (h c _ (mem_uc main_arg1 (by decide))).trans (W24_main_arg1 m ρ c),
       (h c _ (mem_uc main_arg2 (by decide))).trans (W24_main_arg2 m ρ c),
       (h c _ (mem_uc main_arg3 (by decide))).trans (W24_main_arg3 m ρ c),
       (h c _ (mem_uc main_arg4 (by decide))).trans (W24_main_arg4 m ρ c),
       (h c _ (mem_uc main_arg5 (by decide))).trans (W24_main_arg5 m ρ c),
       (h c _ (mem_uc main_arg6 (by decide))).trans (W24_main_arg6 m ρ c)⟩)

end Cert.Proof

end
-- ==== Proof.Spec.lean ====
/- What one Gaussian's features are, as plain scalar formulas over the extended reals: from its 64 input numbers `e`
   (0–2 mean, 3–5 scale, 6–9 quaternion, 10 opacity, 11 one for a Gaussian and zero for padding, 12 + 3 l + c the
   coefficient l of color channel c) and the camera's 15 numbers `w` (0–8 the rotation by rows, 9–11 the translation,
   12–14 the position). -/
module

public import Idealize.ShloMosaic.PureOps.Ideal

@[expose] public section

noncomputable section

namespace Cert.Proof.Spec

open Idealize.ShloMosaic

/-- The number that a 32-bit pattern names. -/
abbrev lit (b : BitVec 32) : EReal := Ideal.ofBits .f32 b

/-- The mean's first camera coordinate. -/
def tx (e : Fin 64 → EReal) (w : Fin 15 → EReal) : EReal :=
  e 0 * w 0 + e 1 * w 1 + e 2 * w 2 + w 9

/-- The mean's second camera coordinate. -/
def ty (e : Fin 64 → EReal) (w : Fin 15 → EReal) : EReal :=
  e 0 * w 3 + e 1 * w 4 + e 2 * w 5 + w 10

/-- The mean's depth. -/
def tz (e : Fin 64 → EReal) (w : Fin 15 → EReal) : EReal :=
  e 0 * w 6 + e 1 * w 7 + e 2 * w 8 + w 11

/-- The depth, at least 0.2. -/
def tzs (e : Fin 64 → EReal) (w : Fin 15 → EReal) : EReal :=
  max (tz e w) (lit 0x3E4CCCCD#32)

/-- The projected mean, first pixel coordinate. -/
def px (e : Fin 64 → EReal) (w : Fin 15 → EReal) : EReal :=
  Ideal.div (lit 0x435C0000#32 * tx e w) (tzs e w) + lit 0x43000000#32

/-- The projected mean, second pixel coordinate. -/
def py (e : Fin 64 → EReal) (w : Fin 15 → EReal) : EReal :=
  Ideal.div (lit 0x435C0000#32 * ty e w) (tzs e w) + lit 0x43000000#32

/-- The quaternion's norm plus 1e-8. -/
def qn (e : Fin 64 → EReal) (w : Fin 15 → EReal) : EReal :=
  Ideal.sqrt (e 6 * e 6 + e 7 * e 7 + e 8 * e 8 + e 9 * e 9) + lit 0x322BCC77#32

/-- A component of the normalized quaternion. -/
def qr (e : Fin 64 → EReal) (w : Fin 15 → EReal) : EReal :=
  Ideal.div (e 6) (qn e w)

/-- A component of the normalized quaternion. -/
def qx (e : Fin 64 → EReal) (w : Fin 15 → EReal) : EReal :=
  Ideal.div (e 7) (qn e w)

/-- A component of the normalized quaternion. -/
def qy (e : Fin 64 → EReal) (w : Fin 15 → EReal) : EReal :=
  Ideal.div (e 8) (qn e w)

/-- A component of the normalized quaternion. -/
def qz (e : Fin 64 → EReal) (w : Fin 15 → EReal) : EReal :=
  Ideal.div (e 9) (qn e w)

/-- An entry of the rotation matrix. -/
def r00 (e : Fin 64 → EReal) (w : Fin 15 → EReal) : EReal :=
  1 - lit 0x40000000#32 * (qy e w * qy e w + qz e w * qz e w)

/-- An entry of the rotation matrix. -/
def r01 (e : Fin 64 → EReal) (w : Fin 15 → EReal) : EReal :=
  lit 0x40000000#32 * (qx e w * qy e w - qr e w * qz e w)

/-- An entry of the rotation matrix. -/
def r02 (e : Fin 64 → EReal) (w : Fin 15 → EReal) : EReal :=
  lit 0x40000000#32 * (qx e w * qz e w + qr e w * qy e w)

/-- An entry of the rotation matrix. -/
def r10 (e : Fin 64 → EReal) (w : Fin 15 → EReal) : EReal :=
  lit 0x40000000#32 * (qx e w * qy e w + qr e w * qz e w)

/-- An entry of the rotation matrix. -/
def r11 (e : Fin 64 → EReal) (w : Fin 15 → EReal) : EReal :=
  1 - lit 0x40000000#32 * (qx e w * qx e w + qz e w * qz e w)

/-- An entry of the rotation matrix. -/
def r12 (e : Fin 64 → EReal) (w : Fin 15 → EReal) : EReal :=
  lit 0x40000000#32 * (qy e w * qz e w - qr e w * qx e w)

/-- An entry of the rotation matrix. -/
def r20 (e : Fin 64 → EReal) (w : Fin 15 → EReal) : EReal :=
  lit 0x40000000#32 * (qx e w * qz e w - qr e w * qy e w)

/-- An entry of the rotation matrix. -/
def r21 (e : Fin 64 → EReal) (w : Fin 15 → EReal) : EReal :=
  lit 0x40000000#32 * (qy e w * qz e w + qr e w * qx e w)

/-- An entry of the rotation matrix. -/
def r22 (e : Fin 64 → EReal) (w : Fin 15 → EReal) : EReal :=
  1 - lit 0x40000000#32 * (qx e w * qx e w + qy e w * qy e w)

/-- An entry of rotation times scale. -/
def m00 (e : Fin 64 → EReal) (w : Fin 15 → EReal) : EReal :=
  r00 e w * e 3

/-- An entry of rotation times scale. -/
def m01 (e : Fin 64 → EReal) (w : Fin 15 → EReal) : EReal :=
  r01 e w * e 4

/-- An entry of rotation times scale. -/
def m02 (e : Fin 64 → EReal) (w : Fin 15 → EReal) : EReal :=
  r02 e w * e 5

/-- An entry of rotation times scale. -/
def m10 (e : Fin 64 → EReal) (w : Fin 15 → EReal) : EReal :=
  r10 e w * e 3

/-- An entry of rotation times scale. -/
def m11 (e : Fin 64 → EReal) (w : Fin 15 → EReal) : EReal :=
  r11 e w * e 4

/-- An entry of rotation times scale. -/
def m12 (e : Fin 64 → EReal) (w : Fin 15 → EReal) : EReal :=
  r12 e w * e 5

/-- An entry of rotation times scale. -/
def m20 (e : Fin 64 → EReal) (w : Fin 15 → EReal) : EReal :=
  r20 e w * e 3

/-- An entry of rotation times scale. -/
def m21 (e : Fin 64 → EReal) (w : Fin 15 → EReal) : EReal :=
  r21 e w * e 4

/-- An entry of rotation times scale. -/
def m22 (e : Fin 64 → EReal) (w : Fin 15 → EReal) : EReal :=
  r22 e w * e 5

/-- An entry of the 3D covariance. -/
def c00 (e : Fin 64 → EReal) (w : Fin 15 → EReal) : EReal :=
  m00 e w * m00 e w + m01 e w * m01 e w + m02 e w * m02 e w

/-- An entry of the 3D covariance. -/
def c01 (e : Fin 64 → EReal) (w : Fin 15 → EReal) : EReal :=
  m00 e w * m10 e w + m01 e w * m11 e w + m02 e w * m12 e w

/-- An entry of the 3D covariance. -/
def c02 (e : Fin 64 → EReal) (w : Fin 15 → EReal) : EReal :=
  m00 e w * m20 e w + m01 e w * m21 e w + m02 e w * m22 e w

/-- An entry of the 3D covariance. -/
def c10 (e : Fin 64 → EReal) (w : Fin 15 → EReal) : EReal :=
  m10 e w * m00 e w + m11 e w * m01 e w + m12 e w * m02 e w

/-- An entry of the 3D covariance. -/
def c11 (e : Fin 64 → EReal) (w : Fin 15 → EReal) : EReal :=
  m10 e w * m10 e w + m11 e w * m11 e w + m12 e w * m12 e w

/-- An entry of the 3D covariance. -/
def c12 (e : Fin 64 → EReal) (w : Fin 15 → EReal) : EReal :=
  m10 e w * m20 e w + m11 e w * m21 e w + m12 e w * m22 e w

/-- An entry of the 3D covariance. -/
def c20 (e : Fin 64 → EReal) (w : Fin 15 → EReal) : EReal :=
  m20 e w * m00 e w + m21 e w * m01 e w + m22 e w * m02 e w

/-- An entry of the 3D covariance. -/
def c21 (e : Fin 64 → EReal) (w : Fin 15 → EReal) : EReal :=
  m20 e w * m10 e w + m21 e w * m11 e w + m22 e w * m12 e w

/-- An entry of the 3D covariance. -/
def c22 (e : Fin 64 → EReal) (w : Fin 15 → EReal) : EReal :=
  m20 e w * m20 e w + m21 e w * m21 e w + m22 e w * m22 e w

/-- A diagonal entry of the projection's Jacobian. -/
def j00 (e : Fin 64 → EReal) (w : Fin 15 → EReal) : EReal :=
  Ideal.div (lit 0x435C0000#32) (tzs e w)

/-- The Jacobian's entry for the first coordinate and the depth. -/
def j02 (e : Fin 64 → EReal) (w : Fin 15 → EReal) : EReal :=
  Ideal.div (lit 0xC35C0000#32 * tx e w) (tzs e w * tzs e w)

/-- The Jacobian's entry for the second coordinate and the depth. -/
def j12 (e : Fin 64 → EReal) (w : Fin 15 → EReal) : EReal :=
  Ideal.div (lit 0xC35C0000#32 * ty e w) (tzs e w * tzs e w)

/-- An entry of Jacobian times view, first row. -/
def u0 (e : Fin 64 → EReal) (w : Fin 15 → EReal) : EReal :=
  j00 e w * w 0 + j02 e w * w 6

/-- An entry of Jacobian times view, first row. -/
def u1 (e : Fin 64 → EReal) (w : Fin 15 → EReal) : EReal :=
  j00 e w * w 1 + j02 e w * w 7

/-- An entry of Jacobian times view, first row. -/
def u2 (e : Fin 64 → EReal) (w : Fin 15 → EReal) : EReal :=
  j00 e w * w 2 + j02 e w * w 8

/-- An entry of Jacobian times view, second row. -/
def v0 (e : Fin 64 → EReal) (w : Fin 15 → EReal) : EReal :=
  j00 e w * w 3 + j12 e w * w 6

/-- An entry of Jacobian times view, second row. -/
def v1 (e : Fin 64 → EReal) (w : Fin 15 → EReal) : EReal :=
  j00 e w * w 4 + j12 e w * w 7

/-- An entry of Jacobian times view, second row. -/
def v2 (e : Fin 64 → EReal) (w : Fin 15 → EReal) : EReal :=
  j00 e w * w 5 + j12 e w * w 8

/-- An entry of that product times the covariance, first row. -/
def p00 (e : Fin 64 → EReal) (w : Fin 15 → EReal) : EReal :=
  u0 e w * c00 e w + u1 e w * c10 e w + u2 e w * c20 e w

/-- An entry of that product times the covariance, first row. -/
def p01 (e : Fin 64 → EReal) (w : Fin 15 → EReal) : EReal :=
  u0 e w * c01 e w + u1 e w * c11 e w + u2 e w * c21 e w

/-- An entry of that product times the covariance, first row. -/
def p02 (e : Fin 64 → EReal) (w : Fin 15 → EReal) : EReal :=
  u0 e w * c02 e w + u1 e w * c12 e w + u2 e w * c22 e w

/-- An entry of that product times the covariance, second row. -/
def p10 (e : Fin 64 → EReal) (w : Fin 15 → EReal) : EReal :=
  v0 e w * c00 e w + v1 e w * c10 e w + v2 e w * c20 e w

/-- An entry of that product times the covariance, second row. -/
def p11 (e : Fin 64 → EReal) (w : Fin 15 → EReal) : EReal :=
  v0 e w * c01 e w + v1 e w * c11 e w + v2 e w * c21 e w

/-- An entry of that product times the covariance, second row. -/
def p12 (e : Fin 64 → EReal) (w : Fin 15 → EReal) : EReal :=
  v0 e w * c02 e w + v1 e w * c12 e w + v2 e w * c22 e w

/-- The 2D covariance, entry (0, 0). -/
def ca (e : Fin 64 → EReal) (w : Fin 15 → EReal) : EReal :=
  p00 e w * u0 e w + p01 e w * u1 e w + p02 e w * u2 e w + lit 0x3E99999A#32

/-- The 2D covariance, entry (0, 1). -/
def cb (e : Fin 64 → EReal) (w : Fin 15 → EReal) : EReal :=
  p00 e w * v0 e w + p01 e w * v1 e w + p02 e w * v2 e w

/-- The 2D covariance, entry (1, 0). -/
def cc (e : Fin 64 → EReal) (w : Fin 15 → EReal) : EReal :=
  p10 e w * u0 e w + p11 e w * u1 e w + p12 e w * u2 e w

/-- The 2D covariance, entry (1, 1). -/
def cd (e : Fin 64 → EReal) (w : Fin 15 → EReal) : EReal :=
  p10 e w * v0 e w + p11 e w * v1 e w + p12 e w * v2 e w + lit 0x3E99999A#32

/-- Its determinant. -/
def det (e : Fin 64 → EReal) (w : Fin 15 → EReal) : EReal :=
  ca e w * cd e w - cb e w * cc e w

/-- Its trace. -/
def tr (e : Fin 64 → EReal) (w : Fin 15 → EReal) : EReal :=
  ca e w + cd e w

/-- Half the gap of the two eigenvalues. -/
def term2 (e : Fin 64 → EReal) (w : Fin 15 → EReal) : EReal :=
  lit 0x3F000000#32 * Ideal.sqrt (max (tr e w * tr e w - lit 0x40800000#32 * det e w) (lit 0x2B8CBCCC#32))

/-- Half the trace. -/
def term1 (e : Fin 64 → EReal) (w : Fin 15 → EReal) : EReal :=
  lit 0x3F000000#32 * tr e w

/-- Three standard deviations along the longer axis. -/
def radius (e : Fin 64 → EReal) (w : Fin 15 → EReal) : EReal :=
  lit 0x40400000#32 * Ideal.sqrt (max (term1 e w - term2 e w) (term1 e w + term2 e w))

/-- The inverse covariance, entry (0, 0). -/
def i00 (e : Fin 64 → EReal) (w : Fin 15 → EReal) : EReal :=
  Ideal.div (cd e w) (det e w)

/-- The sum of the inverse's two off-diagonal entries. -/
def i01s (e : Fin 64 → EReal) (w : Fin 15 → EReal) : EReal :=
  Ideal.div (-(cb e w)) (det e w) + Ideal.div (-(cc e w)) (det e w)

/-- The inverse covariance, entry (1, 1). -/
def i11 (e : Fin 64 → EReal) (w : Fin 15 → EReal) : EReal :=
  Ideal.div (ca e w) (det e w)

/-- Mean minus camera position. -/
def dx (e : Fin 64 → EReal) (w : Fin 15 → EReal) : EReal :=
  e 0 - w 12

/-- Mean minus camera position. -/
def dy (e : Fin 64 → EReal) (w : Fin 15 → EReal) : EReal :=
  e 1 - w 13

/-- Mean minus camera position. -/
def dz (e : Fin 64 → EReal) (w : Fin 15 → EReal) : EReal :=
  e 2 - w 14

/-- The length of that vector plus 1e-8. -/
def dn (e : Fin 64 → EReal) (w : Fin 15 → EReal) : EReal :=
  Ideal.sqrt (dx e w * dx e w + dy e w * dy e w + dz e w * dz e w) + lit 0x322BCC77#32

/-- A component of the view direction. -/
def vx (e : Fin 64 → EReal) (w : Fin 15 → EReal) : EReal :=
  Ideal.div (dx e w) (dn e w)

/-- A component of the view direction. -/
def vy (e : Fin 64 → EReal) (w : Fin 15 → EReal) : EReal :=
  Ideal.div (dy e w) (dn e w)

/-- A component of the view direction. -/
def vz (e : Fin 64 → EReal) (w : Fin 15 → EReal) : EReal :=
  Ideal.div (dz e w) (dn e w)

/-- A spherical harmonic at the view direction. -/
def b1 (e : Fin 64 → EReal) (w : Fin 15 → EReal) : EReal :=
  lit 0xBEFA2A1C#32 * vy e w

/-- A spherical harmonic at the view direction. -/
def b2 (e : Fin 64 → EReal) (w : Fin 15 → EReal) : EReal :=
  lit 0x3EFA2A1C#32 * vz e w

/-- A spherical harmonic at the view direction. -/
def b3 (e : Fin 64 → EReal) (w : Fin 15 → EReal) : EReal :=
  lit 0xBEFA2A1C#32 * vx e w

/-- A spherical harmonic at the view direction. -/
def b4 (e : Fin 64 → EReal) (w : Fin 15 → EReal) : EReal :=
  lit 0x3F8BD8A1#32 * (vx e w * vy e w)

/-- A spherical harmonic at the view direction. -/
def b5 (e : Fin 64 → EReal) (w : Fin 15 → EReal) : EReal :=
  lit 0xBF8BD8A1#32 * (vy e w * vz e w)

/-- A spherical harmonic at the view direction. -/
def b6 (e : Fin 64 → EReal) (w : Fin 15 → EReal) : EReal :=
  lit 0x3EA17B01#32 * (lit 0x40000000#32 * (vz e w * vz e w) - vx e w * vx e w - vy e w * vy e w)

/-- A spherical harmonic at the view direction. -/
def b7 (e : Fin 64 → EReal) (w : Fin 15 → EReal) : EReal :=
  lit 0xBF8BD8A1#32 * (vx e w * vz e w)

/-- A spherical harmonic at the view direction. -/
def b8 (e : Fin 64 → EReal) (w : Fin 15 → EReal) : EReal :=
  lit 0x3F0BD8A1#32 * (vx e w * vx e w - vy e w * vy e w)

/-- A spherical harmonic at the view direction. -/
def b9 (e : Fin 64 → EReal) (w : Fin 15 → EReal) : EReal :=
  lit 0xBF170D19#32 * vy e w * (lit 0x40400000#32 * (vx e w * vx e w) - vy e w * vy e w)

/-- A spherical harmonic at the view direction. -/
def b10 (e : Fin 64 → EReal) (w : Fin 15 → EReal) : EReal :=
  lit 0x4038FFC7#32 * (vx e w * vy e w) * vz e w

/-- A spherical harmonic at the view direction. -/
def b11 (e : Fin 64 → EReal) (w : Fin 15 → EReal) : EReal :=
  lit 0xBEEA01E8#32 * vy e w * (lit 0x40800000#32 * (vz e w * vz e w) - vx e w * vx e w - vy e w * vy e w)

/-- A spherical harmonic at the view direction. -/
def b12 (e : Fin 64 → EReal) (w : Fin 15 → EReal) : EReal :=
  lit 0x3EBF10F8#32 * vz e w * (lit 0x40000000#32 * (vz e w * vz e w) - lit 0x40400000#32 * (vx e w * vx e w) - lit 0x40400000#32 * (vy e w * vy e w))

/-- A spherical harmonic at the view direction. -/
def b13 (e : Fin 64 → EReal) (w : Fin 15 → EReal) : EReal :=
  lit 0xBEEA01E8#32 * vx e w * (lit 0x40800000#32 * (vz e w * vz e w) - vx e w * vx e w - vy e w * vy e w)

/-- A spherical harmonic at the view direction. -/
def b14 (e : Fin 64 → EReal) (w : Fin 15 → EReal) : EReal :=
  lit 0x3FB8FFC7#32 * vz e w * (vx e w * vx e w - vy e w * vy e w)

/-- A spherical harmonic at the view direction. -/
def b15 (e : Fin 64 → EReal) (w : Fin 15 → EReal) : EReal :=
  lit 0xBF170D19#32 * vx e w * (vx e w * vx e w - lit 0x40400000#32 * (vy e w * vy e w))

/-- A color channel. -/
def col0 (e : Fin 64 → EReal) (w : Fin 15 → EReal) : EReal :=
  max (lit 0x3E906EBB#32 * e 12 + b1 e w * e 15 + b2 e w * e 18 + b3 e w * e 21 + b4 e w * e 24 + b5 e w * e 27 + b6 e w * e 30 + b7 e w * e 33 + b8 e w * e 36 + b9 e w * e 39 + b10 e w * e 42 + b11 e w * e 45 + b12 e w * e 48 + b13 e w * e 51 + b14 e w * e 54 + b15 e w * e 57 + lit 0x3F000000#32) 0

/-- A color channel. -/
def col1 (e : Fin 64 → EReal) (w : Fin 15 → EReal) : EReal :=
  max (lit 0x3E906EBB#32 * e 13 + b1 e w * e 16 + b2 e w * e 19 + b3 e w * e 22 + b4 e w * e 25 + b5 e w * e 28 + b6 e w * e 31 + b7 e w * e 34 + b8 e w * e 37 + b9 e w * e 40 + b10 e w * e 43 + b11 e w * e 46 + b12 e w * e 49 + b13 e w * e 52 + b14 e w * e 55 + b15 e w * e 58 + lit 0x3F000000#32) 0

/-- A color channel. -/
def col2 (e : Fin 64 → EReal) (w : Fin 15 → EReal) : EReal :=
  max (lit 0x3E906EBB#32 * e 14 + b1 e w * e 17 + b2 e w * e 20 + b3 e w * e 23 + b4 e w * e 26 + b5 e w * e 29 + b6 e w * e 32 + b7 e w * e 35 + b8 e w * e 38 + b9 e w * e 41 + b10 e w * e 44 + b11 e w * e 47 + b12 e w * e 50 + b13 e w * e 53 + b14 e w * e 56 + b15 e w * e 59 + lit 0x3F000000#32) 0

/-- Whether the Gaussian lies in front of the camera and is no padding. -/
def front (e : Fin 64 → EReal) (w : Fin 15 → EReal) : Prop :=
  lit 0x3E4CCCCD#32 < tz e w ∧ lit 0x3F000000#32 < e 11

/-- One Gaussian's 64 input numbers: mean, scale, quaternion, opacity, a one, the color coefficients, four zeros. -/
def ein (a0 a1 : Fin 3 → EReal) (a2 : Fin 4 → EReal) (a3 : EReal) (a4 : Fin 16 → Fin 3 → EReal) : Fin 64 → EReal := fun r =>
  if h : r.val < 3 then a0 ⟨r.val, h⟩
  else if h : r.val - 3 < 3 then a1 ⟨r.val - 3, h⟩
  else if h : r.val - 6 < 4 then a2 ⟨r.val - 6, h⟩
  else if r.val = 10 then a3
  else if r.val = 11 then 1
  else if h : r.val - 12 < 48 then a4 ⟨(r.val - 12) / 3, by omega⟩ ⟨(r.val - 12) % 3, by omega⟩
  else 0

/-- The camera's 15 numbers: the rotation by rows, the translation, the position. -/
def cam (a5 : Fin 4 → Fin 4 → EReal) (a6 : Fin 3 → EReal) : Fin 15 → EReal := fun k =>
  if h : k.val < 9 then a5 ⟨k.val / 3, by omega⟩ ⟨k.val % 3, by omega⟩
  else if h : k.val - 9 < 3 then a5 ⟨k.val - 9, by omega⟩ 3
  else a6 ⟨k.val - 12, by omega⟩

open Classical in
/-- The 16 features of one Gaussian, in the order of the feature array's rows. -/
def feat (e : Fin 64 → EReal) (w : Fin 15 → EReal) : Fin 16 → EReal :=
  ![px e w, py e w, tz e w, radius e w, i00 e w, i01s e w, i11 e w, e 10, col0 e w, col1 e w, col2 e w,
    if front e w then 1 else 0, px e w - radius e w, px e w + radius e w, py e w - radius e w, py e w + radius e w]

end Cert.Proof.Spec
-- ==== Proof.Block0.lean ====
/- The feature kernel's block, value by value: each value its body binds, read at column `j`, is the scalar formula
   of Spec.lean on that column's 64 inputs and the camera's numbers. -/
module

public import proofs.«01_k».proof.Proof.Gen.KernelIdeal.Frame
public import proofs.«01_k».proof.Proof.Spec
public import Idealize.ShloMosaic.Lib.Pointwise

@[expose] public section

set_option maxRecDepth 16384

noncomputable section

namespace Cert.Proof

open Idealize.ShloMosaic
open Cert.KernelIdeal Cert.KernelIdeal.Gen

variable (x0 : Vec Ideal S64x2048 .f32) (x1 : Vec Ideal S8x128 .f32) (j : Fin 2048)

/-- Column `j` of the feature block: one Gaussian's 64 input numbers. -/
def E : Fin 64 → EReal := fun r => x0 (ix2 r j)

/-- The camera's 15 numbers: the start of the camera block's first row. -/
def Wv : Fin 15 → EReal := fun k => x1 (ix2 0 ⟨k.val, by have := k.isLt; omega⟩)

/-- The whole-block load of the feature block is the block. -/
theorem ld0 : View.ld x0 r0_0 = x0 := View.ld_unit_zero (funext fun a => by match a with | ⟨0, _⟩ => rfl | ⟨1, _⟩ => rfl) _ x0

/-- The whole-block load of the camera block is the block. -/
theorem ld1 : View.ld x1 r0_1 = x1 := View.ld_unit_zero (funext fun a => by match a with | ⟨0, _⟩ => rfl | ⟨1, _⟩ => rfl) _ x1

/-- The first value is the feature block itself. -/
theorem st150 : k0_pay150 x0 x1 = x0 := by
  unfold k0_pay150; rw [ld0]; funext i; pointwise [k0_pay3]

/-- Input row 0. -/
theorem st151 : k0_pay151 x0 x1 (ix2 0 j) = (E x0 j) 0 := by
  unfold k0_pay151 E; rw [ld0]; pointwise [k0_pay3, k0_pay5]

/-- Input row 1. -/
theorem st152 : k0_pay152 x0 x1 (ix2 0 j) = (E x0 j) 1 := by
  unfold k0_pay152 E; rw [ld0]; pointwise [k0_pay3, k0_pay6]

/-- Input row 2. -/
theorem st153 : k0_pay153 x0 x1 (ix2 0 j) = (E x0 j) 2 := by
  unfold k0_pay153 E; rw [ld0]; pointwise [k0_pay3, k0_pay7]

/-- Input row 3. -/
theorem st154 : k0_pay154 x0 x1 (ix2 0 j) = (E x0 j) 3 := by
  unfold k0_pay154 E; rw [ld0]; pointwise [k0_pay3, k0_pay8]

/-- Input row 4. -/
theorem st155 : k0_pay155 x0 x1 (ix2 0 j) = (E x0 j) 4 := by
  unfold k0_pay155 E; rw [ld0]; pointwise [k0_pay3, k0_pay9]

/-- Input row 5. -/
theorem st156 : k0_pay156 x0 x1 (ix2 0 j) = (E x0 j) 5 := by
  unfold k0_pay156 E; rw [ld0]; pointwise [k0_pay3, k0_pay10]

/-- Input row 6. -/
theorem st157 : k0_pay157 x0 x1 (ix2 0 j) = (E x0 j) 6 := by
  unfold k0_pay157 E; rw [ld0]; pointwise [k0_pay3, k0_pay11]

/-- Input row 7. -/
theorem st158 : k0_pay158 x0 x1 (ix2 0 j) = (E x0 j) 7 := by
  unfold k0_pay158 E; rw [ld0]; pointwise [k0_pay3, k0_pay12]

/-- Input row 8. -/
theorem st159 : k0_pay159 x0 x1 (ix2 0 j) = (E x0 j) 8 := by
  unfold k0_pay159 E; rw [ld0]; pointwise [k0_pay3, k0_pay13]

/-- Input row 9. -/
theorem st160 : k0_pay160 x0 x1 (ix2 0 j) = (E x0 j) 9 := by
  unfold k0_pay160 E; rw [ld0]; pointwise [k0_pay3, k0_pay14]

/-- Camera number 9. -/
theorem st161 : k0_pay161 x0 x1 (ix2 0 0) = (Wv x1) 9 := by
  unfold k0_pay161 Wv; rw [ld1]; pointwise [k0_pay4, k0_pay17]

/-- Camera number 10. -/
theorem st162 : k0_pay162 x0 x1 (ix2 0 0) = (Wv x1) 10 := by
  unfold k0_pay162 Wv; rw [ld1]; pointwise [k0_pay4, k0_pay18]

/-- Camera number 11. -/
theorem st163 : k0_pay163 x0 x1 (ix2 0 0) = (Wv x1) 11 := by
  unfold k0_pay163 Wv; rw [ld1]; pointwise [k0_pay4, k0_pay19]

/-- Camera number 12. -/
theorem st164 : k0_pay164 x0 x1 (ix2 0 0) = (Wv x1) 12 := by
  unfold k0_pay164 Wv; rw [ld1]; pointwise [k0_pay4, k0_pay20]

/-- Camera number 13. -/
theorem st165 : k0_pay165 x0 x1 (ix2 0 0) = (Wv x1) 13 := by
  unfold k0_pay165 Wv; rw [ld1]; pointwise [k0_pay4, k0_pay21]

/-- Camera number 14. -/
theorem st166 : k0_pay166 x0 x1 (ix2 0 0) = (Wv x1) 14 := by
  unfold k0_pay166 Wv; rw [ld1]; pointwise [k0_pay4, k0_pay22]

/-- Input row 0. -/
theorem st167 : k0_pay167 x0 x1 (ix2 0 j) = (E x0 j) 0 := by
  unfold k0_pay167 E; rw [ld0]; pointwise [k0_pay3, k0_pay5, k0_pay23]

/-- Input row 1. -/
theorem st168 : k0_pay168 x0 x1 (ix2 0 j) = (E x0 j) 1 := by
  unfold k0_pay168 E; rw [ld0]; pointwise [k0_pay3, k0_pay6, k0_pay24]

/-- Input row 2. -/
theorem st169 : k0_pay169 x0 x1 (ix2 0 j) = (E x0 j) 2 := by
  unfold k0_pay169 E; rw [ld0]; pointwise [k0_pay3, k0_pay7, k0_pay25]

/-- Camera number 0. -/
theorem st170 : k0_pay170 x0 x1 (ix2 0 0) = (Wv x1) 0 := by
  unfold k0_pay170 Wv; rw [ld1]; pointwise [k0_pay4, k0_pay26]

/-- Camera number 1. -/
theorem st171 : k0_pay171 x0 x1 (ix2 0 0) = (Wv x1) 1 := by
  unfold k0_pay171 Wv; rw [ld1]; pointwise [k0_pay4, k0_pay27]

/-- Camera number 2. -/
theorem st172 : k0_pay172 x0 x1 (ix2 0 0) = (Wv x1) 2 := by
  unfold k0_pay172 Wv; rw [ld1]; pointwise [k0_pay4, k0_pay28]

/-- Camera number 3. -/
theorem st173 : k0_pay173 x0 x1 (ix2 0 0) = (Wv x1) 3 := by
  unfold k0_pay173 Wv; rw [ld1]; pointwise [k0_pay4, k0_pay29]

/-- Camera number 4. -/
theorem st174 : k0_pay174 x0 x1 (ix2 0 0) = (Wv x1) 4 := by
  unfold k0_pay174 Wv; rw [ld1]; pointwise [k0_pay4, k0_pay30]

/-- Camera number 5. -/
theorem st175 : k0_pay175 x0 x1 (ix2 0 0) = (Wv x1) 5 := by
  unfold k0_pay175 Wv; rw [ld1]; pointwise [k0_pay4, k0_pay31]

/-- Camera number 6. -/
theorem st176 : k0_pay176 x0 x1 (ix2 0 0) = (Wv x1) 6 := by
  unfold k0_pay176 Wv; rw [ld1]; pointwise [k0_pay4, k0_pay32]

/-- Camera number 7. -/
theorem st177 : k0_pay177 x0 x1 (ix2 0 0) = (Wv x1) 7 := by
  unfold k0_pay177 Wv; rw [ld1]; pointwise [k0_pay4, k0_pay33]

/-- Camera number 8. -/
theorem st178 : k0_pay178 x0 x1 (ix2 0 0) = (Wv x1) 8 := by
  unfold k0_pay178 Wv; rw [ld1]; pointwise [k0_pay4, k0_pay34]

theorem st179 : k0_pay179 x0 x1 (ix2 0 j) = Spec.tx (E x0 j) (Wv x1) := by
  unfold k0_pay179; pointwise [k0_pay35]; simp only [st161, st167, st168, st169, st170, st171, st172] <;> rfl

theorem st180 : k0_pay180 x0 x1 (ix2 0 j) = Spec.tzs (E x0 j) (Wv x1) := by
  unfold k0_pay180; pointwise [k0_pay37, k0_pay39]; simp only [st163, st167, st168, st169, st176, st177, st178] <;> rfl

theorem st181 : k0_pay181 x0 x1 (ix2 0 j) = (E x0 j) 6 * (E x0 j) 6 := by
  unfold k0_pay181; pointwise [k0_pay42]; simp only [st157] <;> rfl

theorem st182 : k0_pay182 x0 x1 (ix2 0 j) = Spec.qr (E x0 j) (Wv x1) := by
  unfold k0_pay182; pointwise [k0_pay43, k0_pay44]; simp only [st157, st158, st159, st160, st181] <;> rfl

theorem st183 : k0_pay183 x0 x1 (ix2 0 j) = Spec.qx (E x0 j) (Wv x1) := by
  unfold k0_pay183; pointwise [k0_pay43, k0_pay45]; simp only [st158, st159, st160, st181] <;> rfl

theorem st184 : k0_pay184 x0 x1 (ix2 0 j) = Spec.qy (E x0 j) (Wv x1) := by
  unfold k0_pay184; pointwise [k0_pay43, k0_pay46]; simp only [st158, st159, st160, st181] <;> rfl

theorem st185 : k0_pay185 x0 x1 (ix2 0 j) = Spec.qz (E x0 j) (Wv x1) := by
  unfold k0_pay185; pointwise [k0_pay43, k0_pay47]; simp only [st158, st159, st160, st181] <;> rfl

theorem st186 : k0_pay186 x0 x1 (ix2 0 j) = Spec.r00 (E x0 j) (Wv x1) := by
  unfold k0_pay186; pointwise [k0_pay43, k0_pay46, k0_pay47, k0_pay48]; simp only [st158, st159, st160, st181] <;> rfl

theorem st187 : k0_pay187 x0 x1 (ix2 0 j) = Spec.r01 (E x0 j) (Wv x1) := by
  unfold k0_pay187; pointwise [k0_pay43, k0_pay44, k0_pay45, k0_pay46, k0_pay47, k0_pay49]; simp only [st157, st158, st159, st160, st181] <;> rfl

theorem st188 : k0_pay188 x0 x1 (ix2 0 j) = Spec.r02 (E x0 j) (Wv x1) := by
  unfold k0_pay188; pointwise [k0_pay43, k0_pay44, k0_pay45, k0_pay46, k0_pay47, k0_pay50]; simp only [st157, st158, st159, st160, st181] <;> rfl

theorem st189 : k0_pay189 x0 x1 (ix2 0 j) = Spec.r10 (E x0 j) (Wv x1) := by
  unfold k0_pay189; pointwise [k0_pay43, k0_pay44, k0_pay45, k0_pay46, k0_pay47, k0_pay51]; simp only [st157, st158, st159, st160, st181] <;> rfl

theorem st190 : k0_pay190 x0 x1 (ix2 0 j) = Spec.r11 (E x0 j) (Wv x1) := by
  unfold k0_pay190; pointwise [k0_pay43, k0_pay45, k0_pay47, k0_pay52]; simp only [st158, st159, st160, st181] <;> rfl

theorem st191 : k0_pay191 x0 x1 (ix2 0 j) = Spec.r12 (E x0 j) (Wv x1) := by
  unfold k0_pay191; pointwise [k0_pay43, k0_pay44, k0_pay45, k0_pay46, k0_pay47, k0_pay53]; simp only [st157, st158, st159, st160, st181] <;> rfl

theorem st192 : k0_pay192 x0 x1 (ix2 0 j) = Spec.qx (E x0 j) (Wv x1) * Spec.qz (E x0 j) (Wv x1) - Spec.qr (E x0 j) (Wv x1) * Spec.qy (E x0 j) (Wv x1) := by
  unfold k0_pay192; pointwise [k0_pay43, k0_pay44, k0_pay45, k0_pay46, k0_pay47, k0_pay54]; simp only [st157, st158, st159, st160, st181] <;> rfl

theorem st193 : k0_pay193 x0 x1 (ix2 0 j) = Spec.m01 (E x0 j) (Wv x1) := by
  unfold k0_pay193; pointwise [k0_pay56]; simp only [st155, st187] <;> rfl

theorem st194 : k0_pay194 x0 x1 (ix2 0 j) = Spec.m02 (E x0 j) (Wv x1) := by
  unfold k0_pay194; pointwise [k0_pay57]; simp only [st156, st188] <;> rfl

theorem st195 : k0_pay195 x0 x1 (ix2 0 j) = Spec.m10 (E x0 j) (Wv x1) := by
  unfold k0_pay195; pointwise [k0_pay58]; simp only [st154, st189] <;> rfl

theorem st196 : k0_pay196 x0 x1 (ix2 0 j) = Spec.m11 (E x0 j) (Wv x1) := by
  unfold k0_pay196; pointwise [k0_pay59]; simp only [st155, st190] <;> rfl

theorem st197 : k0_pay197 x0 x1 (ix2 0 j) = Spec.m12 (E x0 j) (Wv x1) := by
  unfold k0_pay197; pointwise [k0_pay60]; simp only [st156, st191] <;> rfl

theorem st198 : k0_pay198 x0 x1 (ix2 0 j) = Spec.m20 (E x0 j) (Wv x1) := by
  unfold k0_pay198; pointwise [k0_pay61]; simp only [st154, st192] <;> rfl

theorem st199 : k0_pay199 x0 x1 (ix2 0 j) = Spec.m21 (E x0 j) (Wv x1) := by
  unfold k0_pay199; pointwise [k0_pay62]; simp only [st155, st182, st183, st184, st185] <;> rfl

theorem st200 : k0_pay200 x0 x1 (ix2 0 j) = Spec.m22 (E x0 j) (Wv x1) := by
  unfold k0_pay200; pointwise [k0_pay63]; simp only [st156, st183, st184] <;> rfl

theorem st201 : k0_pay201 x0 x1 (ix2 0 j) = Spec.c00 (E x0 j) (Wv x1) := by
  unfold k0_pay201; pointwise [k0_pay55, k0_pay56, k0_pay57, k0_pay64]; simp only [st154, st155, st156, st186, st187, st188] <;> rfl

theorem st202 : k0_pay202 x0 x1 (ix2 0 j) = Spec.c01 (E x0 j) (Wv x1) := by
  unfold k0_pay202; pointwise [k0_pay55, k0_pay56, k0_pay57, k0_pay58, k0_pay59, k0_pay60, k0_pay65]; simp only [st154, st155, st156, st186, st187, st188, st189, st190, st191] <;> rfl

theorem st203 : k0_pay203 x0 x1 (ix2 0 j) = Spec.c10 (E x0 j) (Wv x1) := by
  unfold k0_pay203; pointwise [k0_pay55, k0_pay58, k0_pay67, k0_pay68]; simp only [st154, st186, st189, st193, st194, st196, st197] <;> rfl

theorem st204 : k0_pay204 x0 x1 (ix2 0 j) = Spec.c20 (E x0 j) (Wv x1) := by
  unfold k0_pay204; pointwise [k0_pay55, k0_pay71]; simp only [st154, st186, st193, st194, st198, st199, st200] <;> rfl

theorem st205 : k0_pay205 x0 x1 (ix2 0 j) = Spec.j00 (E x0 j) (Wv x1) := by
  unfold k0_pay205; pointwise [k0_pay75]; simp only [st180] <;> rfl

theorem st206 : k0_pay206 x0 x1 (ix2 0 j) = Spec.j02 (E x0 j) (Wv x1) := by
  unfold k0_pay206; pointwise [k0_pay74, k0_pay76]; simp only [st179, st180] <;> rfl

theorem st207 : k0_pay207 x0 x1 (ix2 0 j) = Spec.j00 (E x0 j) (Wv x1) := by
  unfold k0_pay207; pointwise [k0_pay77]; simp only [st180] <;> rfl

theorem st208 : k0_pay208 x0 x1 (ix2 0 j) = Spec.j12 (E x0 j) (Wv x1) := by
  unfold k0_pay208; pointwise [k0_pay36, k0_pay74, k0_pay78]; simp only [st162, st167, st168, st169, st173, st174, st175, st180] <;> rfl

theorem st209 : k0_pay209 x0 x1 (ix2 0 j) = Spec.u0 (E x0 j) (Wv x1) := by
  unfold k0_pay209; pointwise [k0_pay74, k0_pay75, k0_pay76, k0_pay79]; simp only [st170, st176, st179, st180] <;> rfl

theorem st210 : k0_pay210 x0 x1 (ix2 0 j) = Spec.j00 (E x0 j) (Wv x1) * (Wv x1) 1 := by
  unfold k0_pay210; pointwise [k0_pay75, k0_pay80]; simp only [st171, st180] <;> rfl

theorem st211 : k0_pay211 x0 x1 (ix2 0 j) = (Wv x1) 7 := by
  unfold k0_pay211; pointwise [k0_pay81]; simp only [st177] <;> rfl

theorem st212 : k0_pay212 x0 x1 (ix2 0 j) = Spec.u0 (E x0 j) (Wv x1) := by
  unfold k0_pay212; pointwise [k0_pay82]; simp only [st209] <;> rfl

theorem st213 : k0_pay213 x0 x1 (ix2 0 j) = Spec.u1 (E x0 j) (Wv x1) := by
  unfold k0_pay213; pointwise [k0_pay83]; simp only [st206, st210, st211] <;> rfl

theorem st214 : k0_pay214 x0 x1 (ix2 0 j) = Spec.u2 (E x0 j) (Wv x1) := by
  unfold k0_pay214; pointwise [k0_pay84]; simp only [st172, st178, st205, st206] <;> rfl

theorem st215 : k0_pay215 x0 x1 (ix2 0 j) = Spec.v0 (E x0 j) (Wv x1) := by
  unfold k0_pay215; pointwise [k0_pay85]; simp only [st173, st176, st207, st208] <;> rfl

theorem st216 : k0_pay216 x0 x1 (ix2 0 j) = Spec.v1 (E x0 j) (Wv x1) := by
  unfold k0_pay216; pointwise [k0_pay86]; simp only [st174, st177, st207, st208] <;> rfl

theorem st217 : k0_pay217 x0 x1 (ix2 0 j) = Spec.v2 (E x0 j) (Wv x1) := by
  unfold k0_pay217; pointwise [k0_pay87]; simp only [st175, st178, st207, st208] <;> rfl

theorem st218 : k0_pay218 x0 x1 (ix2 0 j) = Spec.c00 (E x0 j) (Wv x1) := by
  unfold k0_pay218; pointwise [k0_pay88]; simp only [st201] <;> rfl

theorem st219 : k0_pay219 x0 x1 (ix2 0 j) = Spec.c01 (E x0 j) (Wv x1) := by
  unfold k0_pay219; pointwise [k0_pay89]; simp only [st202] <;> rfl

theorem st220 : k0_pay220 x0 x1 (ix2 0 j) = Spec.c02 (E x0 j) (Wv x1) := by
  unfold k0_pay220; pointwise [k0_pay55, k0_pay56, k0_pay57, k0_pay61, k0_pay62, k0_pay63, k0_pay66, k0_pay90]; simp only [st154, st155, st156, st182, st183, st184, st185, st186, st187, st188, st192] <;> rfl

theorem st221 : k0_pay221 x0 x1 (ix2 0 j) = Spec.c10 (E x0 j) (Wv x1) := by
  unfold k0_pay221; pointwise [k0_pay91]; simp only [st203] <;> rfl

theorem st222 : k0_pay222 x0 x1 (ix2 0 j) = Spec.c11 (E x0 j) (Wv x1) := by
  unfold k0_pay222; pointwise [k0_pay69, k0_pay92]; simp only [st195, st196, st197] <;> rfl

theorem st223 : k0_pay223 x0 x1 (ix2 0 j) = Spec.c12 (E x0 j) (Wv x1) := by
  unfold k0_pay223; pointwise [k0_pay70, k0_pay93]; simp only [st195, st196, st197, st198, st199, st200] <;> rfl

theorem st224 : k0_pay224 x0 x1 (ix2 0 j) = Spec.c20 (E x0 j) (Wv x1) := by
  unfold k0_pay224; pointwise [k0_pay94]; simp only [st204] <;> rfl

theorem st225 : k0_pay225 x0 x1 (ix2 0 j) = Spec.c21 (E x0 j) (Wv x1) := by
  unfold k0_pay225; pointwise [k0_pay72, k0_pay95]; simp only [st195, st196, st197, st198, st199, st200] <;> rfl

theorem st226 : k0_pay226 x0 x1 (ix2 0 j) = Spec.c22 (E x0 j) (Wv x1) := by
  unfold k0_pay226; pointwise [k0_pay73, k0_pay96]; simp only [st198, st199, st200] <;> rfl

theorem st227 : k0_pay227 x0 x1 (ix2 0 j) = Spec.p00 (E x0 j) (Wv x1) := by
  unfold k0_pay227; pointwise [k0_pay82, k0_pay83, k0_pay84, k0_pay88, k0_pay91, k0_pay94, k0_pay97]; simp only [st172, st178, st201, st203, st204, st205, st206, st209, st210, st211] <;> rfl

theorem st228 : k0_pay228 x0 x1 (ix2 0 j) = Spec.u0 (E x0 j) (Wv x1) * Spec.c01 (E x0 j) (Wv x1) := by
  unfold k0_pay228; pointwise [k0_pay82, k0_pay89, k0_pay98]; simp only [st202, st209] <;> rfl

theorem st229 : k0_pay229 x0 x1 (ix2 0 j) = Spec.ca (E x0 j) (Wv x1) := by
  unfold k0_pay229; pointwise [k0_pay99, k0_pay100, k0_pay104]; simp only [st212, st213, st214, st220, st222, st223, st225, st226, st227, st228] <;> rfl

theorem st230 : k0_pay230 x0 x1 (ix2 0 j) = Spec.cb (E x0 j) (Wv x1) := by
  unfold k0_pay230; pointwise [k0_pay99, k0_pay100, k0_pay105]; simp only [st212, st213, st214, st215, st216, st217, st220, st222, st223, st225, st226, st227, st228] <;> rfl

theorem st231 : k0_pay231 x0 x1 (ix2 0 j) = Spec.cc (E x0 j) (Wv x1) := by
  unfold k0_pay231; pointwise [k0_pay101, k0_pay102, k0_pay103, k0_pay106]; simp only [st212, st213, st214, st215, st216, st217, st218, st219, st220, st221, st222, st223, st224, st225, st226] <;> rfl

theorem st232 : k0_pay232 x0 x1 (ix2 0 j) = Spec.cd (E x0 j) (Wv x1) := by
  unfold k0_pay232; pointwise [k0_pay101, k0_pay102, k0_pay103, k0_pay107]; simp only [st215, st216, st217, st218, st219, st220, st221, st222, st223, st224, st225, st226] <;> rfl

theorem st233 : k0_pay233 x0 x1 (ix2 0 j) = Spec.vx (E x0 j) (Wv x1) := by
  unfold k0_pay233; pointwise [k0_pay113, k0_pay114, k0_pay115, k0_pay116, k0_pay117]; simp only [st151, st152, st153, st164, st165, st166] <;> rfl

theorem st234 : k0_pay234 x0 x1 (ix2 0 j) = Spec.vy (E x0 j) (Wv x1) := by
  unfold k0_pay234; pointwise [k0_pay113, k0_pay114, k0_pay115, k0_pay116, k0_pay118]; simp only [st151, st152, st153, st164, st165, st166] <;> rfl

theorem st235 : k0_pay235 x0 x1 (ix2 0 j) = Spec.vz (E x0 j) (Wv x1) := by
  unfold k0_pay235; pointwise [k0_pay113, k0_pay114, k0_pay115, k0_pay116, k0_pay119]; simp only [st151, st152, st153, st164, st165, st166] <;> rfl

theorem st236 : k0_pay236 x0 x1 (ix2 0 j) = Spec.vx (E x0 j) (Wv x1) * Spec.vx (E x0 j) (Wv x1) := by
  unfold k0_pay236; pointwise [k0_pay113, k0_pay114, k0_pay115, k0_pay116, k0_pay117, k0_pay120]; simp only [st151, st152, st153, st164, st165, st166] <;> rfl

theorem st237 : k0_pay237 x0 x1 (ix2 0 j) = Spec.vy (E x0 j) (Wv x1) * Spec.vy (E x0 j) (Wv x1) := by
  unfold k0_pay237; pointwise [k0_pay113, k0_pay114, k0_pay115, k0_pay116, k0_pay118, k0_pay121]; simp only [st151, st152, st153, st164, st165, st166] <;> rfl

theorem st238 : k0_pay238 x0 x1 (ix2 0 j) = Spec.vz (E x0 j) (Wv x1) * Spec.vz (E x0 j) (Wv x1) := by
  unfold k0_pay238; pointwise [k0_pay113, k0_pay114, k0_pay115, k0_pay116, k0_pay119, k0_pay122]; simp only [st151, st152, st153, st164, st165, st166] <;> rfl

theorem st239 : k0_pay239 x0 x1 (ix2 0 j) = Spec.vx (E x0 j) (Wv x1) * Spec.vy (E x0 j) (Wv x1) := by
  unfold k0_pay239; pointwise [k0_pay113, k0_pay114, k0_pay115, k0_pay116, k0_pay117, k0_pay118, k0_pay123]; simp only [st151, st152, st153, st164, st165, st166] <;> rfl

theorem st240 : k0_pay240 x0 x1 (ix2 0 j) = Spec.b1 (E x0 j) (Wv x1) := by
  unfold k0_pay240; pointwise [k0_pay125]; simp only [st234] <;> rfl

theorem st241 : k0_pay241 x0 x1 (ix2 0 j) = Spec.b2 (E x0 j) (Wv x1) := by
  unfold k0_pay241; pointwise [k0_pay126]; simp only [st235] <;> rfl

theorem st242 : k0_pay242 x0 x1 (ix2 0 j) = Spec.b3 (E x0 j) (Wv x1) := by
  unfold k0_pay242; pointwise [k0_pay127]; simp only [st233] <;> rfl

theorem st243 : k0_pay243 x0 x1 (ix2 0 j) = Spec.b4 (E x0 j) (Wv x1) := by
  unfold k0_pay243; pointwise [k0_pay128]; simp only [st239] <;> rfl

theorem st244 : k0_pay244 x0 x1 (ix2 0 j) = Spec.b5 (E x0 j) (Wv x1) := by
  unfold k0_pay244; pointwise [k0_pay113, k0_pay114, k0_pay115, k0_pay116, k0_pay118, k0_pay119, k0_pay124, k0_pay129]; simp only [st151, st152, st153, st164, st165, st166] <;> rfl

theorem st245 : k0_pay245 x0 x1 (ix2 0 j) = Spec.b6 (E x0 j) (Wv x1) := by
  unfold k0_pay245; pointwise [k0_pay130]; simp only [st236, st237, st238] <;> rfl

theorem st246 : k0_pay246 x0 x1 (ix2 0 j) = Spec.b7 (E x0 j) (Wv x1) := by
  unfold k0_pay246; pointwise [k0_pay131]; simp only [st233, st235] <;> rfl

theorem st247 : k0_pay247 x0 x1 (ix2 0 j) = Spec.b8 (E x0 j) (Wv x1) := by
  unfold k0_pay247; pointwise [k0_pay132]; simp only [st236, st237] <;> rfl

theorem st248 : k0_pay248 x0 x1 (ix2 0 j) = Spec.b9 (E x0 j) (Wv x1) := by
  unfold k0_pay248; pointwise [k0_pay133]; simp only [st234, st236, st237] <;> rfl

theorem st249 : k0_pay249 x0 x1 (ix2 0 j) = Spec.b10 (E x0 j) (Wv x1) := by
  unfold k0_pay249; pointwise [k0_pay134]; simp only [st235, st239] <;> rfl

theorem st250 : k0_pay250 x0 x1 (ix2 0 j) = Spec.b11 (E x0 j) (Wv x1) := by
  unfold k0_pay250; pointwise [k0_pay135]; simp only [st234, st236, st237, st238] <;> rfl

theorem st251 : k0_pay251 x0 x1 (ix2 0 j) = Spec.b12 (E x0 j) (Wv x1) := by
  unfold k0_pay251; pointwise [k0_pay136, k0_pay137, k0_pay138, k0_pay139]; simp only [st235, st236, st237, st238] <;> rfl

theorem st252 : k0_pay252 x0 x1 (ix2 0 j) = Spec.b13 (E x0 j) (Wv x1) := by
  unfold k0_pay252; pointwise [k0_pay140]; simp only [st233, st236, st237, st238] <;> rfl

theorem st253 : k0_pay253 x0 x1 (ix2 0 j) = Spec.b14 (E x0 j) (Wv x1) := by
  unfold k0_pay253; pointwise [k0_pay141]; simp only [st235, st236, st237] <;> rfl

theorem st254 : k0_pay254 x0 x1 (ix2 0 j) = Spec.b15 (E x0 j) (Wv x1) := by
  unfold k0_pay254; pointwise [k0_pay142]; simp only [st233, st236, st237] <;> rfl

end Cert.Proof
-- ==== Proof.Block1.lean ====
/- The feature kernel's block as it is stored: each of its 16 rows is that row's scalar formula of Spec.lean. -/
module

public import proofs.«01_k».proof.Proof.Block0

@[expose] public section

set_option maxRecDepth 16384

noncomputable section

namespace Cert.Proof

open Idealize.ShloMosaic
open Cert.KernelIdeal Cert.KernelIdeal.Gen

variable (x0 : Vec Ideal S64x2048 .f32) (x1 : Vec Ideal S8x128 .f32) (j : Fin 2048)

/-- The conjunction of two one-bit truth values. -/
theorem andi_ofBool (a b : Bool) : IntOp.andi (BitVec.ofBool a) (BitVec.ofBool b) = BitVec.ofBool (a && b) := by
  cases a <;> cases b <;> rfl

/-- The choice by a one-bit truth value. -/
theorem select_ofBool {α : Type} (a : Bool) (x y : α) : Scalar.select (BitVec.ofBool a) x y = if a = true then x else y := by
  cases a <;> rfl

open Classical in
/-- The opacity. -/
theorem fv14 : (k0_pay15 (View.ld x0 r0_0)) (ix2 0 j) = (E x0 j) 10 := by
  rw [ld0]; pointwise [k0_pay3, k0_pay15]; rfl

open Classical in
/-- The depth. -/
theorem fv84 : (k0_pay37 (k0_pay163 x0 x1) (k0_pay167 x0 x1) (k0_pay168 x0 x1) (k0_pay169 x0 x1) (k0_pay176 x0 x1) (k0_pay177 x0 x1) (k0_pay178 x0 x1)) (ix2 0 j) = Spec.tz (E x0 j) (Wv x1) := by
  pointwise [k0_pay37]; simp only [st163, st167, st168, st169, st176, st177, st178] <;> rfl

open Classical in
/-- The front flag. -/
theorem fv92 : (k0_pay38 (k0_pay16 (View.ld x0 r0_0)) (k0_pay163 x0 x1) (k0_pay167 x0 x1) (k0_pay168 x0 x1) (k0_pay169 x0 x1) (k0_pay176 x0 x1) (k0_pay177 x0 x1) (k0_pay178 x0 x1)) (ix2 0 j) = if Spec.front (E x0 j) (Wv x1) then 1 else 0 := by
  rw [ld0]; pointwise [k0_pay3, k0_pay16, k0_pay37, k0_pay38]; simp only [st163, st167, st168, st169, st176, st177, st178, andi_ofBool, select_ofBool]
  exact if_congr (by rw [Bool.and_eq_true, decide_eq_true_iff, decide_eq_true_iff]; exact Iff.rfl) rfl rfl

open Classical in
/-- The first pixel coordinate. -/
theorem fv99 : (k0_pay40 (k0_pay161 x0 x1) (k0_pay163 x0 x1) (k0_pay167 x0 x1) (k0_pay168 x0 x1) (k0_pay169 x0 x1) (k0_pay170 x0 x1) (k0_pay171 x0 x1) (k0_pay172 x0 x1) (k0_pay176 x0 x1) (k0_pay177 x0 x1) (k0_pay178 x0 x1)) (ix2 0 j) = Spec.px (E x0 j) (Wv x1) := by
  pointwise [k0_pay35, k0_pay37, k0_pay39, k0_pay40]; simp only [st161, st163, st167, st168, st169, st170, st171, st172, st176, st177, st178] <;> rfl

open Classical in
/-- The second pixel coordinate. -/
theorem fv104 : (k0_pay41 (k0_pay162 x0 x1) (k0_pay163 x0 x1) (k0_pay167 x0 x1) (k0_pay168 x0 x1) (k0_pay169 x0 x1) (k0_pay173 x0 x1) (k0_pay174 x0 x1) (k0_pay175 x0 x1) (k0_pay176 x0 x1) (k0_pay177 x0 x1) (k0_pay178 x0 x1)) (ix2 0 j) = Spec.py (E x0 j) (Wv x1) := by
  pointwise [k0_pay36, k0_pay37, k0_pay39, k0_pay41]; simp only [st162, st163, st167, st168, st169, st173, st174, st175, st176, st177, st178] <;> rfl

open Classical in
/-- The radius. -/
theorem fv407 : (k0_pay109 (k0_pay229 x0 x1) (k0_pay230 x0 x1) (k0_pay231 x0 x1) (k0_pay232 x0 x1)) (ix2 0 j) = Spec.radius (E x0 j) (Wv x1) := by
  pointwise [k0_pay108, k0_pay109]; simp only [st229, st230, st231, st232] <;> rfl

open Classical in
/-- The inverse covariance, entry (0, 0). -/
theorem fv408 : (k0_pay110 (k0_pay229 x0 x1) (k0_pay230 x0 x1) (k0_pay231 x0 x1) (k0_pay232 x0 x1)) (ix2 0 j) = Spec.i00 (E x0 j) (Wv x1) := by
  pointwise [k0_pay108, k0_pay110]; simp only [st229, st230, st231, st232] <;> rfl

open Classical in
/-- The sum of its off-diagonal entries. -/
theorem fv415 : (k0_pay111 (k0_pay229 x0 x1) (k0_pay230 x0 x1) (k0_pay231 x0 x1) (k0_pay232 x0 x1)) (ix2 0 j) = Spec.i01s (E x0 j) (Wv x1) := by
  pointwise [k0_pay108, k0_pay111]; simp only [st229, st230, st231, st232, zero_sub] <;> rfl

open Classical in
/-- The inverse covariance, entry (1, 1). -/
theorem fv416 : (k0_pay112 (k0_pay229 x0 x1) (k0_pay230 x0 x1) (k0_pay231 x0 x1) (k0_pay232 x0 x1)) (ix2 0 j) = Spec.i11 (E x0 j) (Wv x1) := by
  pointwise [k0_pay108, k0_pay112]; simp only [st229, st230, st231, st232] <;> rfl

open Classical in
/-- The first color channel. -/
theorem fv556 : (k0_pay144 (k0_pay150 x0 x1) (k0_pay249 x0 x1) (k0_pay250 x0 x1) (k0_pay251 x0 x1) (k0_pay252 x0 x1) (k0_pay253 x0 x1) (k0_pay254 x0 x1) (k0_pay143 (k0_pay150 x0 x1) (k0_pay240 x0 x1) (k0_pay241 x0 x1) (k0_pay242 x0 x1) (k0_pay243 x0 x1) (k0_pay244 x0 x1) (k0_pay245 x0 x1) (k0_pay246 x0 x1) (k0_pay247 x0 x1) (k0_pay248 x0 x1))) (ix2 0 j) = Spec.col0 (E x0 j) (Wv x1) := by
  simp only [st150]; pointwise [k0_pay143, k0_pay144]; simp only [st240, st241, st242, st243, st244, st245, st246, st247, st248, st249, st250, st251, st252, st253, st254] <;> rfl

open Classical in
/-- The second color channel. -/
theorem fv608 : (k0_pay147 (k0_pay150 x0 x1) (k0_pay251 x0 x1) (k0_pay252 x0 x1) (k0_pay253 x0 x1) (k0_pay254 x0 x1) (k0_pay145 (k0_pay150 x0 x1) (k0_pay240 x0 x1) (k0_pay241 x0 x1) (k0_pay242 x0 x1) (k0_pay243 x0 x1) (k0_pay244 x0 x1) (k0_pay245 x0 x1) (k0_pay246 x0 x1) (k0_pay247 x0 x1) (k0_pay248 x0 x1) (k0_pay249 x0 x1)) (k0_pay146 (k0_pay150 x0 x1) (k0_pay250 x0 x1))) (ix2 0 j) = Spec.col1 (E x0 j) (Wv x1) := by
  simp only [st150]; pointwise [k0_pay145, k0_pay146, k0_pay147]; simp only [st240, st241, st242, st243, st244, st245, st246, st247, st248, st249, st250, st251, st252, st253, st254] <;> rfl

/-- The third color channel before its clamp. -/
theorem fv656 : (k0_pay1 (k0_pay150 x0 x1) (k0_pay252 x0 x1) (k0_pay253 x0 x1) (k0_pay254 x0 x1) (k0_pay148 (k0_pay150 x0 x1) (k0_pay240 x0 x1) (k0_pay241 x0 x1) (k0_pay242 x0 x1) (k0_pay243 x0 x1) (k0_pay244 x0 x1) (k0_pay245 x0 x1) (k0_pay246 x0 x1) (k0_pay247 x0 x1) (k0_pay248 x0 x1) (k0_pay249 x0 x1) (k0_pay250 x0 x1) (k0_pay251 x0 x1)) (k0_pay149 (k0_pay150 x0 x1))) (ix2 0 j) = Spec.lit 0x3E906EBB#32 * (E x0 j) 14 + Spec.b1 (E x0 j) (Wv x1) * (E x0 j) 17 + Spec.b2 (E x0 j) (Wv x1) * (E x0 j) 20 + Spec.b3 (E x0 j) (Wv x1) * (E x0 j) 23 + Spec.b4 (E x0 j) (Wv x1) * (E x0 j) 26 + Spec.b5 (E x0 j) (Wv x1) * (E x0 j) 29 + Spec.b6 (E x0 j) (Wv x1) * (E x0 j) 32 + Spec.b7 (E x0 j) (Wv x1) * (E x0 j) 35 + Spec.b8 (E x0 j) (Wv x1) * (E x0 j) 38 + Spec.b9 (E x0 j) (Wv x1) * (E x0 j) 41 + Spec.b10 (E x0 j) (Wv x1) * (E x0 j) 44 + Spec.b11 (E x0 j) (Wv x1) * (E x0 j) 47 + Spec.b12 (E x0 j) (Wv x1) * (E x0 j) 50 + Spec.b13 (E x0 j) (Wv x1) * (E x0 j) 53 + Spec.b14 (E x0 j) (Wv x1) * (E x0 j) 56 + Spec.b15 (E x0 j) (Wv x1) * (E x0 j) 59 := by
  simp only [st150]; pointwise [k0_pay1, k0_pay148, k0_pay149]; simp only [st240, st241, st242, st243, st244, st245, st246, st247, st248, st249, st250, st251, st252, st253, st254] <;> rfl

/-- The stored block at row `r` and column `j` is feature `r` of the column's Gaussian. -/
theorem out0_apply (r : Fin 16) : out0_2 x0 x1 (ix2 r j) = Spec.feat (E x0 j) (Wv x1) r := by
  unfold out0_2
  rw [View.canon_unit_zero (funext fun a => by match a with | ⟨0, _⟩ => rfl | ⟨1, _⟩ => rfl)]
  unfold k0_pay2
  match r with
  | ⟨0, _⟩ => pointwise; simp only [fv99]; rfl
  | ⟨1, _⟩ => pointwise; simp only [fv104]; rfl
  | ⟨2, _⟩ => pointwise; simp only [fv84]; rfl
  | ⟨3, _⟩ => pointwise; simp only [fv407]; rfl
  | ⟨4, _⟩ => pointwise; simp only [fv408]; rfl
  | ⟨5, _⟩ => pointwise; simp only [fv415]; rfl
  | ⟨6, _⟩ => pointwise; simp only [fv416]; rfl
  | ⟨7, _⟩ => pointwise; simp only [fv14]; rfl
  | ⟨8, _⟩ => pointwise; simp only [fv556]; rfl
  | ⟨9, _⟩ => pointwise; simp only [fv608]; rfl
  | ⟨10, _⟩ => pointwise; simp only [fv656]; rfl
  | ⟨11, _⟩ => pointwise; simp only [fv92]; rfl
  | ⟨12, _⟩ => pointwise; simp only [fv99, fv407]; rfl
  | ⟨13, _⟩ => pointwise; simp only [fv99, fv407]; rfl
  | ⟨14, _⟩ => pointwise; simp only [fv104, fv407]; rfl
  | ⟨15, _⟩ => pointwise; simp only [fv104, fv407]; rfl
  | ⟨n + 16, h⟩ => exact absurd h (by omega)

end Cert.Proof
-- ==== Proof.Region0.lean ====
/- What the feature array holds after the feature kernel: at every row and column that row's scalar formula on the
   column's 64 inputs and the camera's numbers. -/
module

public import proofs.«01_k».proof.Proof.Block1
public import Idealize.ShloMosaic.Lib.Pipeline.ValueKit

@[expose] public section

set_option maxRecDepth 16384

noncomputable section

namespace Cert.Proof

open Idealize.ShloMosaic Idealize.ShloMosaic.TcCoe
open Idealize.SL Idealize.SL.Sem
open Cert.KernelIdeal Cert.KernelIdeal.Gen

variable (V : (c : Dev nD) → (b : Ref sig .tc) → Buf (Elt Ideal) ((c : Thread nD τ).loc b)) (c : Dev nD)

/-- The whole feature array after the kernel, from the input array `X` and the camera array `C`. -/
def featArr (X : S64x100352.Idx → EReal) (C : S8x128.Idx → EReal) : S16x100352.Idx → EReal :=
  fun i => Spec.feat (fun r => X (ix2 r (i 1))) (Wv C) (i 0)

/-- The windows' block numbers at a grid point. -/
theorem index0 : ∀ t : Fin cfg0.N, win0_0.index t 0 = 0 ∧ win0_0.index t 1 = win0_2.index t 1 ∧ win0_1.index t 0 = 0
    ∧ win0_1.index t 1 = 0 ∧ win0_2.index t 0 = 0 := by decide +kernel

/-- What the feature kernel's pipeline leaves in its output array. -/
theorem arr0 : (dat0 V c).arrAt 2 cfg0.N = featArr (V c main_v14) (V c main_v24) := by
  refine (dat0 V c).arrAt_eq_of_covers 2 _ (by decide +kernel) fun t hf y => ?_
  blk_simp
  rw [after0_2]
  obtain ⟨i00, i01, i10, i11, i20⟩ := index0 t
  have e0 : ((win0_2.blk t).view.emb y) 0 = y 0 := Fin.ext (by blk_simp; rw [i20]; omega)
  have h0 : E (iblk0 V c 0 t) (y 1) = fun r => V c main_v14 (ix2 r (((win0_2.blk t).view.emb y) 1)) := by
    funext r
    unfold E iblk0
    show V c main_v14 (((cfg0.win 0).blk t).view.emb (ix2 r (y 1))) = _
    refine congrArg (V c main_v14) (funext fun a => Fin.ext ?_)
    match a with
    | ⟨0, _⟩ => blk_simp; rw [i00]; omega
    | ⟨1, _⟩ => blk_simp; rw [i01]
  have h1 : Wv (iblk0 V c 1 t) = Wv (V c main_v24) := by
    funext k
    unfold Wv iblk0
    show V c main_v24 (((cfg0.win 1).blk t).view.emb (ix2 0 ⟨k.val, _⟩)) = _
    refine congrArg (V c main_v24) (funext fun a => Fin.ext ?_)
    match a with
    | ⟨0, _⟩ => blk_simp; rw [i10]; rfl
    | ⟨1, _⟩ => blk_simp; rw [i11]; omega
  have hy : y = ix2 (y 0) (y 1) := eq_ix2 y
  refine (congrArg (out0_2 (iblk0 V c 0 t) (iblk0 V c 1 t)) hy).trans
    ((out0_apply (iblk0 V c 0 t) (iblk0 V c 1 t) (y 1) (y 0)).trans ?_)
  rw [h0, h1]
  exact congrArg (Spec.feat _ _) e0.symm

end Cert.Proof
-- ==== Proof.HostIn.lean ====
/- What the host code puts into the feature kernel's two inputs: the 64 rows of each Gaussian's numbers, padded
   with zeros past the 100000 that there are, and the camera's 15 numbers. -/
module

public import proofs.«01_k».proof.Proof.Region0
public import Idealize.ShloMosaic.Lib.StableHlo.ReadAt
public import Idealize.ShloMosaic.Lib.Routing.OpsSet

@[expose] public section

set_option maxRecDepth 16384
set_option maxHeartbeats 2000000

noncomputable section

namespace Cert.Proof

open Idealize.ShloMosaic Idealize.ShloMosaic.TcCoe
open Idealize.SL Idealize.SL.Sem
open Cert.KernelIdeal Cert.KernelIdeal.Gen

variable (m : (ℓ : Loc nD τ sig) → Buf (Elt Ideal) ℓ) (ρ : Dev nD → PrngReg) (c : Dev nD)

/-- The integer zero that pads is the number zero. -/
theorem sitofp_zero : (FloatOps.sitofp (F := Ideal) .f32 0#32 : EReal) = 0 := by
  show (((0#32 : BitVec 32).toInt : ℝ) : EReal) = 0
  simp

/-- A column of the input array below 100000 holds that Gaussian's numbers. -/
theorem in14 (r : Fin 64) (n : Fin 100000) :
    (W13 m ρ c (Proc.devRef .tc main_v14) : S64x100352.Idx → EReal) (ix2 r ⟨n.val, by have := n.isLt; omega⟩)
      = Spec.ein (fun k => (W0 m ρ c (Proc.devRef .tc main_arg0) : S100000x3.Idx → EReal) (ix2 n k))
        (fun k => (W0 m ρ c (Proc.devRef .tc main_arg1) : S100000x3.Idx → EReal) (ix2 n k))
        (fun k => (W0 m ρ c (Proc.devRef .tc main_arg2) : S100000x4.Idx → EReal) (ix2 n k))
        ((W0 m ρ c (Proc.devRef .tc main_arg3) : S100000.Idx → EReal) (ix1 n))
        (fun l k => (W0 m ρ c (Proc.devRef .tc main_arg4) : S100000x16x3.Idx → EReal) (ix3 n l k)) r := by
  after_reads_simp
  simp only [Matrix.cons_val]
  after_reads_simp
  try simp -implicitDefEqProofs only [StableHlo.TRef.toBuf, StableHlo.TRef.ofBuf, cast_cast, cast_eq]
  pointwise [Spec.ein]
  have hn := n.isLt
  have hr := r.isLt
  simp only [hn, and_true, Nat.sub_sub, Nat.reduceAdd]
  by_cases h0 : r.val < 3
  · simp only [h0, dite_true]
  by_cases h1 : r.val - 3 < 3
  · simp only [h0, h1, dite_true, dite_false]
  by_cases h2 : r.val - 6 < 4
  · simp only [h0, h1, h2, dite_true, dite_false]
  by_cases h3 : r.val = 10
  · have h3' : r.val - 10 < 1 := by omega
    have e := eq_true h3
    clear h3
    simp only [h0, h1, h2, e, h3', dite_true, dite_false, if_true]
  by_cases h4 : r.val = 11
  · have h3' : ¬ r.val - 10 < 1 := by omega
    have h4' : r.val - 11 < 1 := by omega
    have e := eq_true h4
    clear h4
    simp only [h0, h1, h2, h3', h4', h3, e, dite_true, dite_false, if_true, if_false]
  have h3' : ¬ r.val - 10 < 1 := by omega
  have h4' : ¬ r.val - 11 < 1 := by omega
  simp only [h0, h1, h2, h3', h4', h3, h4, dite_false, if_false]
  by_cases h5 : r.val - 12 < 48
  · simp only [h5, dite_true]
  · simp only [h5, dite_false]

/-- A padding column holds a zero where the others hold a one. -/
theorem in14_pad (n : Fin 100352) (hn : ¬ n.val < 100000) :
    (W13 m ρ c (Proc.devRef .tc main_v14) : S64x100352.Idx → EReal) (ix2 11 n) = (0 : EReal) := by
  after_reads_simp
  simp only [Matrix.cons_val]
  after_reads_simp
  try simp -implicitDefEqProofs only [StableHlo.TRef.toBuf, StableHlo.TRef.ofBuf, cast_cast, cast_eq]
  pointwise
  simp [hn, sitofp_zero]

/-- Update `k` of the camera scatter lands at row 0, column `k`. -/
theorem cam_lands : ∀ k : Fin 15, scatter_S8x128_S2_S15_0_0_01_0.resultIdx? (ix1 k) (fun _ => 0#32)
    = some (ix2 0 ⟨k.val, by have := k.isLt; omega⟩) := by decide +kernel

/-- The camera array holds the camera's numbers. -/
theorem in24 : Wv (W13 m ρ c (Proc.devRef .tc main_v24) : S8x128.Idx → EReal)
   = Spec.cam (fun i j => (W0 m ρ c (Proc.devRef .tc main_arg5) : S4x4.Idx → EReal) (ix2 i j)) (fun k => (W0 m ρ c (Proc.devRef .tc main_arg6) : S3.Idx → EReal) (ix1 k)) := by
  funext k
  unfold Wv
  after_reads_simp
  simp only [Matrix.cons_val]
  simp only [show ((concatenate S2 0
        [⟨S1, StableHlo.upto hostOps0_12 (W12 m ρ c) 14 (Proc.tc.devRef main_v21)⟩,
          ⟨S1, StableHlo.upto hostOps0_12 (W12 m ρ c) 14 (Proc.tc.devRef main_v22)⟩]
        concatenates_S1_S1_S2_d0) : IVec S2 32) = fun _ => 0#32 by
      funext j
      idx_vars j
      pointwise
      after_reads_simp
      pointwise
      exact ite_self _]
  refine Eq.trans (b := (concatenate S15 0
        [⟨S9, StableHlo.upto hostOps0_12 (W12 m ρ c) 9 (Proc.tc.devRef main_v17)⟩,
          ⟨S3, StableHlo.upto hostOps0_12 (W12 m ρ c) 9 (Proc.tc.devRef main_v19)⟩,
          ⟨S3, StableHlo.upto hostOps0_12 (W12 m ρ c) 9 (Proc.tc.devRef main_arg6)⟩]
        concatenates_S9_S3_S3_S15_d0 : FVec Ideal S15 .f32) (ix1 k)) (Routing.scatter_set_hit _ _ _ _ _ _ (fun j hj => ?_) (ix1 k) (cam_lands k)) ?_
  · idx_vars j
    have := (cam_lands j0).symm.trans hj
    have h2 := Option.some.inj this
    have h3 := congrArg (fun i : S8x128.Idx => (i 1).val) h2
    have h4 : j0.val = k.val := h3
    rw [Fin.ext h4]
  · pointwise [Spec.cam]
    after_reads_simp
    by_cases h0 : k.val < 9
    · simp only [h0, dite_true]
      change (shapeCast S9 (extractStridedSlice S3x3 ![0, 0] (W0 m ρ c (Proc.devRef .tc main_arg5) : S4x4.Idx → EReal) slices_S4x4_S3x3_0_0) shapeCasts_S3x3_S9 : S9.Idx → EReal) (ix1 ⟨k.val, h0⟩) = _
      pointwise
    by_cases h1 : k.val - 9 < 3
    · simp only [h0, h1, dite_true, dite_false]
      change (shapeCast S3 (extractStridedSlice S3x1 ![0, 3] (W0 m ρ c (Proc.devRef .tc main_arg5) : S4x4.Idx → EReal) slices_S4x4_S3x1_0_3) shapeCasts_S3x1_S3 : S3.Idx → EReal) (ix1 ⟨k.val - 9, h1⟩) = _
      pointwise
    simp only [h0, h1, dite_false, Nat.sub_sub]

end Cert.Proof
-- ==== Proof.Tile.lean ====
/- Which tile a Gaussian touches: the tile corners as the host code computes them, the score of a Gaussian at a tile,
   and the kernel's score array at every tile and Gaussian. -/
module

public import proofs.«01_k».proof.Proof.HostIn

@[expose] public section

set_option maxRecDepth 16384
set_option maxHeartbeats 2000000

noncomputable section

namespace Cert.Proof

open Idealize.ShloMosaic Idealize.ShloMosaic.TcCoe
open Idealize.SL Idealize.SL.Sem

/-- The sign of a word, as a number. -/
def sgn (b : BitVec 32) : BitVec 32 := if b = 0 then 0 else if b.msb = true then -1 else 1

/-- The sign array, entry by entry. -/
theorem signi_sgn {s : Shape} (x : IVec s 32) : signi x = fun i => sgn (x i) := rfl

/-- The floor division of a tile number by 16, in the words of the host code. -/
theorem floor_word : ∀ t : Fin 256,
    Scalar.select
      (IntOp.andi
        (IntOp.cmpi CmpIPredicate.ne
          (sgn (BitVec.ofNat 32 t.val)) (sgn 16#32))
        (IntOp.cmpi CmpIPredicate.ne (IntOp.remsi ArithUnit.host (BitVec.ofNat 32 t.val) 16#32) 0#32))
      (IntOp.subi (IntOp.divsi ArithUnit.host (BitVec.ofNat 32 t.val) 16#32) 1#32)
      (IntOp.divsi ArithUnit.host (BitVec.ofNat 32 t.val) 16#32) = BitVec.ofNat 32 (t.val / 16) := by
  decide +kernel

/-- The remainder of a tile number by 16, in the words of the host code. -/
theorem rem_word : ∀ t : Fin 256,
    Scalar.select
      (IntOp.andi
        (IntOp.cmpi CmpIPredicate.ne
          (IntOp.cmpi CmpIPredicate.slt
            (IntOp.remsi ArithUnit.host (BitVec.ofNat 32 t.val)
              (Scalar.select (IntOp.cmpi CmpIPredicate.eq 16#32 0#32) 1#32 16#32))
            0#32)
          (IntOp.cmpi CmpIPredicate.slt
            (Scalar.select (IntOp.cmpi CmpIPredicate.eq 16#32 0#32) 1#32 16#32) 0#32))
        (IntOp.cmpi CmpIPredicate.ne
          (IntOp.remsi ArithUnit.host (BitVec.ofNat 32 t.val)
            (Scalar.select (IntOp.cmpi CmpIPredicate.eq 16#32 0#32) 1#32 16#32))
          0#32))
      (IntOp.addi
        (IntOp.remsi ArithUnit.host (BitVec.ofNat 32 t.val)
          (Scalar.select (IntOp.cmpi CmpIPredicate.eq 16#32 0#32) 1#32 16#32))
        (Scalar.select (IntOp.cmpi CmpIPredicate.eq 16#32 0#32) 1#32 16#32))
      (IntOp.remsi ArithUnit.host (BitVec.ofNat 32 t.val)
        (Scalar.select (IntOp.cmpi CmpIPredicate.eq 16#32 0#32) 1#32 16#32)) = BitVec.ofNat 32 (t.val % 16) := by
  decide +kernel

/-- The left edge of tile `t`. -/
def left (t : Fin 256) : EReal := FloatOps.sitofp (F := Ideal) .f32 (IntOp.muli (BitVec.ofNat 32 (t.val / 16)) 16#32)

/-- The top edge of tile `t`. -/
def top (t : Fin 256) : EReal := FloatOps.sitofp (F := Ideal) .f32 (IntOp.muli (BitVec.ofNat 32 (t.val % 16)) 16#32)

/-- A splat's box meets tile `t` and the splat is in front. -/
def hit (f : Fin 16 → EReal) (t : Fin 256) : Prop :=
  ((left t ≤ f 13 ∧ f 12 ≤ left t + Spec.lit 0x41800000) ∧ (top t ≤ f 15 ∧ f 14 ≤ top t + Spec.lit 0x41800000))
    ∧ Spec.lit 0x3F000000 < f 11

open Classical in
/-- The score of a splat at tile `t`: minus its depth if it meets the tile, else a number below all others. -/
def score (f : Fin 16 → EReal) (t : Fin 256) : EReal := if hit f t then -f 2 else Spec.lit 0xD01502F9

open Cert.KernelIdeal Cert.KernelIdeal.Gen

variable (m : (ℓ : Loc nD τ sig) → Buf (Elt Ideal) ℓ) (ρ : Dev nD → PrngReg) (c : Dev nD)

/-- The kernel's score array, at tile `t` and column `n`. -/
theorem score_k (t : Fin 256) (n : Fin 100352) :
    (W20 m ρ c (Proc.devRef .tc main_v81) : S256x100352.Idx → EReal) (ix2 t n)
      = score (fun r => (W14 m ρ c (Proc.devRef .tc main_v25) : S16x100352.Idx → EReal) (ix2 r n)) t := by
  after_reads_simp
  try simp -implicitDefEqProofs only [StableHlo.TRef.toBuf, StableHlo.TRef.ofBuf, cast_cast, cast_eq]
  simp only [signi_sgn]
  pointwise
  simp only [id_eq]
  pointwise
  simp only [andi_ofBool, select_ofBool, Bool.and_eq_true, decide_eq_true_eq, floor_word, rem_word]
  unfold score hit left top Spec.lit
  simp only [and_assoc]
  exact if_congr Iff.rfl rfl rfl

end Cert.Proof
-- ==== Proof.TopK.lean ====
/- The choice of the greatest entries of a row: a sort by value, ties by position; and that a row which is another row
   followed by entries `c` has the same leading choices as long as these are at least `c`. -/
module

public import Idealize.ShloMosaic.PureOps.Ideal
public import Idealize.ShloMosaic.Lib.SortPrefix
public import Idealize.ShloMosaic.Lib.SortFacts
public import Idealize.ShloMosaic.Lib.Pointwise

@[expose] public section

noncomputable section

namespace Cert.Proof

open Idealize.ShloMosaic

/-- Position `i` comes before position `j`: a greater value, or the same value at an earlier position. -/
def bef {n : Nat} (v : Fin n → EReal) (i j : Fin n) : Bool := decide (v j < v i) || (decide (v i = v j) && decide (i < j))

/-- The order is strict and total. -/
theorem bef_total {n : Nat} (v : Fin n → EReal) : StrictTotalBefore (bef v) :=
  StrictTotalBefore.of_key_then_position (fun a b : EReal => decide (b < a)) v (fun a => by simp)
    (fun a b c h h' => by simp only [decide_eq_true_eq] at *; exact lt_trans h' h)
    (fun a b => by
      simp only [decide_eq_true_eq]
      rcases lt_trichotomy a b with h | h | h
      · exact Or.inr (Or.inr h)
      · exact Or.inr (Or.inl h)
      · exact Or.inl h)

/-- Two positions of one row in order and two of another with the same values and the same order of positions. -/
theorem bef_congr {n n' : Nat} {v : Fin n → EReal} {v' : Fin n' → EReal} {i j : Fin n} {i' j' : Fin n'}
    (hi : v' i' = v i) (hj : v' j' = v j) (h : i'.val < j'.val ↔ i.val < j.val) : bef v' i' j' = bef v i j := by
  unfold bef
  rw [hi, hj]
  congr 2
  simp only [Fin.lt_def, h]

/-- What is not before has no greater value. -/
theorem le_of_not_bef {n : Nat} {v : Fin n → EReal} {i j : Fin n} (h : bef v i j = false) : v i ≤ v j := by
  by_contra hlt
  have : bef v i j = true := by unfold bef; simp [not_le.mp hlt]
  rw [h] at this
  exact absurd this (by decide)

/-- The position of the `k`-th greatest entry. -/
def sel {n : Nat} (v : Fin n → EReal) : Fin n → Fin n := sortedFrom (bef v)

/-- Chosen positions are in order. -/
theorem sel_ordered {n : Nat} (v : Fin n → EReal) {i j : Fin n} (h : i < j) : bef v (sel v j) (sel v i) = false :=
  sortedFrom_noInversion (bef v) (bef v) (fun a b => (bef_total v).asymm a b) (fun _ _ h => h)
    (fun a b c => (bef_total v).negTrans a b c) i j h

/-- Chosen values fall. -/
theorem sel_anti {n : Nat} (v : Fin n → EReal) {i j : Fin n} (h : i ≤ j) : v (sel v j) ≤ v (sel v i) := by
  rcases lt_or_eq_of_le h with h | h
  · exact le_of_not_bef (sel_ordered v h)
  · rw [h]

/-- A stable sort by value alone breaks ties by position. -/
theorem stableSort_bef {n : Nat} (v : Fin n → EReal) (l : List (Fin n)) (hl : l.Pairwise (· < ·)) :
    stableSort (fun a b => decide (v b < v a)) l = stableSort (bef v) l := by
  induction l with
  | nil => rfl
  | cons a l ih =>
    rw [List.pairwise_cons] at hl
    unfold stableSort
    rw [ih hl.2]
    refine insertBefore_congr _ _ a _ fun b hb => ?_
    have hb' : b ∈ l := (perm_stableSort _ l).mem_iff.mp hb
    have hab : ¬ b < a := not_lt.mpr (le_of_lt (hl.1 b hb'))
    unfold bef
    simp [hab]

/-- The sort of positions by value alone is the choice of the greatest. -/
theorem sortedFrom_value {n : Nat} (v : Fin n → EReal) : sortedFrom (fun a b => decide (v b < v a)) = sel v := by
  funext k
  unfold sel sortedFrom
  exact List.get_of_eq (stableSort_bef v (List.finRange n) (List.pairwise_lt_finRange n) :
    sortPositions n (fun a b => decide (v b < v a)) = sortPositions n (bef v)) _

variable {n n' : Nat} (hn : n ≤ n') (v : Fin n → EReal) (v' : Fin n' → EReal) (c : EReal)
  (hv : ∀ i : Fin n, v' (i.castLE hn) = v i) (hc : ∀ i : Fin n', n ≤ i.val → v' i = c)
include hv hc

/-- A choice of at least `c` is the same in the longer row. -/
theorem sel_pad (k : Fin n) (hk : c ≤ v (sel v k)) : sel v' (k.castLE hn) = (sel v k).castLE hn := by
  have h1 : k.val + 1 ≤ n := k.isLt
  have h2 : k.val + 1 ≤ n' := h1.trans hn
  have hbef : ∀ i j : Fin n, bef v' (i.castLE hn) (j.castLE hn) = bef v i j := fun i j => bef_congr (hv i) (hv j) Iff.rfl
  have h := (bef_total v').sortedFrom_eq_of_prefix h2 (fun j : Fin (k.val + 1) => (sel v (j.castLE h1)).castLE hn)
    (fun a b hab => by
      have h3 := sortedFrom_injective (bef v) (Fin.castLE_injective hn hab)
      exact Fin.castLE_injective h1 h3)
    (fun i j hij => (hbef _ _).trans (sel_ordered v hij))
    (fun i p hp => by
      by_cases hpn : p.val < n
      · obtain ⟨l, hl⟩ := sortedFrom_surjective (bef v) ⟨p.val, hpn⟩
        have hl' : sel v l = ⟨p.val, hpn⟩ := hl
        have hp' : p = (sel v l).castLE hn := by rw [hl']; rfl
        have hlk : k.val < l.val := by
          by_contra hle
          refine hp ⟨l.val, by omega⟩ ?_
          exact hp'.symm
        rw [hp', hbef]
        exact sel_ordered v (Fin.lt_def.mpr (lt_of_le_of_lt (Nat.lt_succ_iff.mp i.isLt) hlk))
      · have hpc := hc p (not_lt.mp hpn)
        have hle : c ≤ v (sel v (i.castLE h1)) := hk.trans (sel_anti v (Fin.le_def.mpr (Nat.lt_succ_iff.mp i.isLt)))
        have hlt : ¬ p < (sel v (i.castLE h1)).castLE hn := fun h => by
          have := (sel v (i.castLE h1)).isLt
          have := Fin.lt_def.mp h
          simp only [Fin.val_castLE] at this
          omega
        unfold bef
        rw [hpc, hv]
        simp [hle, hlt])
    ⟨k.val, by omega⟩
  exact h

/-- Where the shorter row's choice is below `c`, the longer row's is at most `c`. -/
theorem sel_pad_le (k : Fin n) (hk : v (sel v k) < c) : v' (sel v' (k.castLE hn)) ≤ c := by
  by_contra hgt
  have hgt := not_le.mp hgt
  have h1 : k.val + 1 ≤ n := k.isLt
  have hreal : ∀ j : Fin n', j.val ≤ k.val → (sel v' j).val < n := fun j hj => by
    by_contra hge
    have := hc _ (not_lt.mp hge)
    have h3 := sel_anti v' (i := j) (j := k.castLE hn) (Fin.le_def.mpr hj)
    rw [this] at h3
    exact absurd hgt (not_lt.mpr h3)
  have hlt : ∀ j : Fin (k.val + 1), (sel v' ⟨j.val, by omega⟩).val < n := fun j => hreal _ (Nat.lt_succ_iff.mp j.isLt)
  have hcast : ∀ j : Fin (k.val + 1), (⟨(sel v' ⟨j.val, by omega⟩).val, hlt j⟩ : Fin n).castLE hn = sel v' ⟨j.val, by omega⟩ :=
    fun j => rfl
  have hbef : ∀ i j : Fin n, bef v i j = bef v' (i.castLE hn) (j.castLE hn) := fun i j => (bef_congr (hv i) (hv j) Iff.rfl).symm
  have h := (bef_total v).sortedFrom_eq_of_prefix h1 (fun j : Fin (k.val + 1) => (⟨(sel v' ⟨j.val, by omega⟩).val, hlt j⟩ : Fin n))
    (fun a b hab => by
      have h3 := congrArg Fin.val hab
      have h4 := sortedFrom_injective (bef v') (Fin.ext h3)
      exact Fin.ext (Fin.mk.inj_iff.mp h4))
    (fun i j hij => by rw [hbef]; exact sel_ordered v' (Fin.lt_def.mpr hij))
    (fun i p hp => by
      rw [hbef]
      obtain ⟨l, hl⟩ := sortedFrom_surjective (bef v') (p.castLE hn)
      have hl' : sel v' l = p.castLE hn := hl
      have hlk : k.val < l.val := by
        by_contra hle
        refine hp ⟨l.val, by omega⟩ (Fin.ext ?_)
        exact (congrArg Fin.val hl' :)
      rw [← hl']
      exact sel_ordered v' (Fin.lt_def.mpr (lt_of_le_of_lt (Nat.lt_succ_iff.mp i.isLt) hlk)))
    ⟨k.val, by omega⟩
  have h5 : sel v k = ⟨(sel v' (k.castLE hn)).val, hreal _ le_rfl⟩ := h
  rw [h5, ← hv] at hk
  exact absurd (hk.trans hgt) (lt_irrefl _)

omit hv hc

/-- The index `(i, k)` with its second coordinate replaced. -/
theorem along_ix2 {r m : Nat} (i : Fin r) (k j : Fin m) :
    Shape.Idx.along (s := (⟨2, ![r, m]⟩ : Shape)) (ix2 i k) (1 : Fin 2) j = ix2 i j := by
  funext a; match a with | ⟨0, _⟩ => rfl | ⟨1, _⟩ => rfl

/-- A row of an array, its chosen positions, and the order by value. -/
theorem along_row {r m : Nat} (x : (⟨2, ![r, m]⟩ : Shape).Idx → EReal) (i : Fin r) (k : Fin m) :
    sortedFrom (fun a b => FloatOps.cmpfTotal (F := Ideal) (φ := .f32) .gt
      (x (Shape.Idx.along (s := (⟨2, ![r, m]⟩ : Shape)) (ix2 i k) (1 : Fin 2) a))
      (x (Shape.Idx.along (s := (⟨2, ![r, m]⟩ : Shape)) (ix2 i k) (1 : Fin 2) b)) == 1#1) k
    = sel (fun j => x (ix2 i j)) k := by
  rw [← sortedFrom_value]
  refine congrArg (fun B : Fin m → Fin m → Bool => sortedFrom B k) (funext fun (a : Fin m) => funext fun (b : Fin m) => ?_)
  rw [Ideal.cmpfTotal_def, along_ix2 i k a, along_ix2 i k b]
  show (BitVec.ofBool (decide (x (ix2 i b) < x (ix2 i a))) == 1#1) = _
  cases decide (x (ix2 i b) < x (ix2 i a)) <;> rfl

/-- The row-wise choice of the `K` greatest of an array: the chosen value. -/
theorem topK_value {r m K : Nat} (hK : K ≤ m) (x : (⟨2, ![r, m]⟩ : Shape).Idx → EReal)
    (h : Shape.Slices ⟨2, ![r, m]⟩ (fun _ => 0) ⟨2, ![r, K]⟩) (i : Fin r) (k : Fin K) :
    (Host.topK ⟨2, ![r, K]⟩ 1 (FloatOps.cmpfTotal (F := Ideal) (φ := .f32) .gt) x h).1 (ix2 i k)
      = x (ix2 i (sel (fun j => x (ix2 i j)) (k.castLE hK))) := by
  have hix : ∀ (p : Shape.Idx ⟨2, ![r, m]⟩), (∀ a, (p a).val = 0 + ((ix2 i k : Shape.Idx ⟨2, ![r, K]⟩) (a.cast h.1)).val) →
      p = ix2 i (k.castLE hK) := fun p hp => by
    funext a; match a with
    | ⟨0, _⟩ => exact Fin.ext ((hp (0 : Fin 2)).trans (Nat.zero_add _))
    | ⟨1, _⟩ => exact Fin.ext ((hp (1 : Fin 2)).trans (Nat.zero_add _))
  rw [← along_row]
  unfold Host.topK Host.sort2 extractStridedSlice
  dsimp only
  generalize hp : (fun a => _ : Shape.Idx ⟨2, ![r, m]⟩) = p
  obtain rfl := hix p (fun a => by rw [← hp])
  rw [dif_pos (by decide : 1 < 2)]
  exact congrArg x (along_ix2 i (k.castLE hK) _)

/-- The row-wise choice of the `K` greatest of an array: the chosen position. -/
theorem topK_index {r m K : Nat} (hK : K ≤ m) (x : (⟨2, ![r, m]⟩ : Shape).Idx → EReal)
    (h : Shape.Slices ⟨2, ![r, m]⟩ (fun _ => 0) ⟨2, ![r, K]⟩) (i : Fin r) (k : Fin K) :
    (Host.topK ⟨2, ![r, K]⟩ 1 (FloatOps.cmpfTotal (F := Ideal) (φ := .f32) .gt) x h).2 (ix2 i k)
      = BitVec.ofNat 32 (sel (fun j => x (ix2 i j)) (k.castLE hK)).val := by
  have hix : ∀ (p : Shape.Idx ⟨2, ![r, m]⟩), (∀ a, (p a).val = 0 + ((ix2 i k : Shape.Idx ⟨2, ![r, K]⟩) (a.cast h.1)).val) →
      p = ix2 i (k.castLE hK) := fun p hp => by
    funext a; match a with
    | ⟨0, _⟩ => exact Fin.ext ((hp (0 : Fin 2)).trans (Nat.zero_add _))
    | ⟨1, _⟩ => exact Fin.ext ((hp (1 : Fin 2)).trans (Nat.zero_add _))
  rw [← along_row]
  unfold Host.topK Host.sort2 extractStridedSlice
  dsimp only
  generalize hp : (fun a => _ : Shape.Idx ⟨2, ![r, m]⟩) = p
  obtain rfl := hix p (fun a => by rw [← hp])
  rw [dif_pos (by decide : 1 < 2)]
  rfl

end Cert.Proof
-- ==== Proof.Gather.lean ====
/- The four gathers of the two programs: an entry of the result is the operand's at the position that the index array
   holds. -/
module

public import proofs.«01_k».proof.Proof.Gen.KernelIdeal
public import proofs.«01_k».proof.Proof.Gen.ReferenceIdeal
public import Idealize.ShloMosaic.PureOps.Ideal
public import Idealize.ShloMosaic.Lib.Pointwise
public import Idealize.ShloMosaic.Lib.Routing.OpsSet

@[expose] public section

noncomputable section

namespace Cert.Proof

open Idealize.ShloMosaic

/-- A small number read back from its 32-bit word. -/
theorem word_nat (b N : Nat) (hb : b < N) (hN : N ≤ 2 ^ 31) : min (BitVec.ofNat 32 b).toInt.toNat (N - 1) = b := by
  rw [StableHlo.Predicate.toInt_ofNat_small _ (by omega)]
  omega

/-- The gather of feature columns. -/
theorem gather_feat (x : Cert.KernelIdeal.S16x100352.Idx → EReal) (idx : IVec Cert.KernelIdeal.S16384x1 32) (r : Fin 16) (p : Fin 16384) (b : Fin 100352)
    (hb : idx (ix2 p 0) = BitVec.ofNat 32 b.val) :
    Host.gather Cert.KernelIdeal.gather_S16x100352_S16384x1_S16x16384_0_1_n_n_1_1_161 x idx (ix2 r p) = x (ix2 r b) := by
  unfold Host.gather
  refine congrArg x (funext fun a => Fin.ext ?_)
  match a with
  | ⟨0, _⟩ =>
    show Cert.KernelIdeal.gather_S16x100352_S16384x1_S16x16384_0_1_n_n_1_1_161.start (ix2 r p) idx 0 + Cert.KernelIdeal.gather_S16x100352_S16384x1_S16x16384_0_1_n_n_1_1_161.batchCoord (ix2 r p) 0 + Cert.KernelIdeal.gather_S16x100352_S16384x1_S16x16384_0_1_n_n_1_1_161.offCoord (ix2 r p) 0 = _
    rw [GatherDims.batchCoord_eq_zero _ _ _ List.not_mem_nil]
    have hs : Cert.KernelIdeal.gather_S16x100352_S16384x1_S16x16384_0_1_n_n_1_1_161.start (ix2 r p) idx 0 = 0 := by
      unfold GatherDims.start
      rw [dif_neg (show (0 : Fin 2) ∉ Cert.KernelIdeal.gather_S16x100352_S16384x1_S16x16384_0_1_n_n_1_1_161.startIndexMap from by decide)]
    rw [hs]
    simp only [Nat.add_zero, Nat.zero_add]
    unfold GatherDims.offCoord
    rw [dif_pos (show (0 : Fin 2) ∈ Cert.KernelIdeal.gather_S16x100352_S16384x1_S16x16384_0_1_n_n_1_1_161.sKept from by decide)]
    rfl
  | ⟨1, _⟩ =>
    show Cert.KernelIdeal.gather_S16x100352_S16384x1_S16x16384_0_1_n_n_1_1_161.start (ix2 r p) idx 1 + Cert.KernelIdeal.gather_S16x100352_S16384x1_S16x16384_0_1_n_n_1_1_161.batchCoord (ix2 r p) 1 + Cert.KernelIdeal.gather_S16x100352_S16384x1_S16x16384_0_1_n_n_1_1_161.offCoord (ix2 r p) 1 = _
    rw [GatherDims.batchCoord_eq_zero _ _ _ List.not_mem_nil]
    rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ Cert.KernelIdeal.gather_S16x100352_S16384x1_S16x16384_0_1_n_n_1_1_161.startIndexMap from List.mem_singleton.mpr rfl)]
    have hsi : Cert.KernelIdeal.gather_S16x100352_S16384x1_S16x16384_0_1_n_n_1_1_161.siIdx (ix2 r p) ⟨List.idxOf (1 : Fin 2) Cert.KernelIdeal.gather_S16x100352_S16384x1_S16x16384_0_1_n_n_1_1_161.startIndexMap,
        List.idxOf_lt_length_iff.2 (List.mem_singleton.mpr rfl)⟩ = (ix2 p 0) := by
      funext b; refine Fin.ext ?_
      match b with
      | ⟨0, _⟩ => rfl
      | ⟨1, _⟩ => rfl
    rw [hsi, hb]
    exact word_nat _ _ b.isLt (by decide)

/-- The gather of one number per Gaussian. -/
theorem gather_one (x : Cert.ReferenceIdeal.S100000.Idx → EReal) (idx : IVec Cert.ReferenceIdeal.S256x64x1 32) (t : Fin 256) (k : Fin 64) (b : Fin 100000)
    (hb : idx (ix3 t k 0) = BitVec.ofNat 32 b.val) :
    Host.gather Cert.ReferenceIdeal.gather_S100000_S256x64x1_S256x64_n_0_n_n_0_2_1 x idx (ix2 t k) = x (ix1 b) := by
  unfold Host.gather
  refine congrArg x (funext fun a => Fin.ext ?_)
  match a with
  | ⟨0, _⟩ =>
    show Cert.ReferenceIdeal.gather_S100000_S256x64x1_S256x64_n_0_n_n_0_2_1.start (ix2 t k) idx 0 + Cert.ReferenceIdeal.gather_S100000_S256x64x1_S256x64_n_0_n_n_0_2_1.batchCoord (ix2 t k) 0 + Cert.ReferenceIdeal.gather_S100000_S256x64x1_S256x64_n_0_n_n_0_2_1.offCoord (ix2 t k) 0 = _
    rw [GatherDims.batchCoord_eq_zero _ _ _ List.not_mem_nil]
    rw [GatherDims.offCoord_eq_zero _ _ _ (fun h => ((GatherDims.mem_sKept _ _).mp h).1 (List.mem_singleton.mpr rfl))]
    simp only [Nat.add_zero]
    unfold GatherDims.start
    rw [dif_pos (show (0 : Fin 1) ∈ Cert.ReferenceIdeal.gather_S100000_S256x64x1_S256x64_n_0_n_n_0_2_1.startIndexMap from List.mem_singleton.mpr rfl)]
    have hsi : Cert.ReferenceIdeal.gather_S100000_S256x64x1_S256x64_n_0_n_n_0_2_1.siIdx (ix2 t k) ⟨List.idxOf (0 : Fin 1) Cert.ReferenceIdeal.gather_S100000_S256x64x1_S256x64_n_0_n_n_0_2_1.startIndexMap,
        List.idxOf_lt_length_iff.2 (List.mem_singleton.mpr rfl)⟩ = (ix3 t k 0) := by
      funext b; refine Fin.ext ?_
      match b with
      | ⟨0, _⟩ => rfl
      | ⟨1, _⟩ => rfl
      | ⟨2, _⟩ => rfl
    rw [hsi, hb]
    exact word_nat _ _ b.isLt (by decide)

/-- The gather of three numbers per Gaussian. -/
theorem gather_three (x : Cert.ReferenceIdeal.S100000x3.Idx → EReal) (idx : IVec Cert.ReferenceIdeal.S256x64x1 32) (t : Fin 256) (k : Fin 64) (l : Fin 3) (b : Fin 100000)
    (hb : idx (ix3 t k 0) = BitVec.ofNat 32 b.val) :
    Host.gather Cert.ReferenceIdeal.gather_S100000x3_S256x64x1_S256x64x3_2_0_n_n_0_2_13 x idx (ix3 t k l) = x (ix2 b l) := by
  unfold Host.gather
  refine congrArg x (funext fun a => Fin.ext ?_)
  match a with
  | ⟨0, _⟩ =>
    show Cert.ReferenceIdeal.gather_S100000x3_S256x64x1_S256x64x3_2_0_n_n_0_2_13.start (ix3 t k l) idx 0 + Cert.ReferenceIdeal.gather_S100000x3_S256x64x1_S256x64x3_2_0_n_n_0_2_13.batchCoord (ix3 t k l) 0 + Cert.ReferenceIdeal.gather_S100000x3_S256x64x1_S256x64x3_2_0_n_n_0_2_13.offCoord (ix3 t k l) 0 = _
    rw [GatherDims.batchCoord_eq_zero _ _ _ List.not_mem_nil]
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ Cert.ReferenceIdeal.gather_S100000x3_S256x64x1_S256x64x3_2_0_n_n_0_2_13.startIndexMap from List.mem_singleton.mpr rfl)]
    have hsi : Cert.ReferenceIdeal.gather_S100000x3_S256x64x1_S256x64x3_2_0_n_n_0_2_13.siIdx (ix3 t k l) ⟨List.idxOf (0 : Fin 2) Cert.ReferenceIdeal.gather_S100000x3_S256x64x1_S256x64x3_2_0_n_n_0_2_13.startIndexMap,
        List.idxOf_lt_length_iff.2 (List.mem_singleton.mpr rfl)⟩ = (ix3 t k 0) := by
      funext b; refine Fin.ext ?_
      match b with
      | ⟨0, _⟩ => rfl
      | ⟨1, _⟩ => rfl
      | ⟨2, _⟩ => rfl
    rw [hsi, hb]
    exact word_nat _ _ b.isLt (by decide)
  | ⟨1, _⟩ =>
    show Cert.ReferenceIdeal.gather_S100000x3_S256x64x1_S256x64x3_2_0_n_n_0_2_13.start (ix3 t k l) idx 1 + Cert.ReferenceIdeal.gather_S100000x3_S256x64x1_S256x64x3_2_0_n_n_0_2_13.batchCoord (ix3 t k l) 1 + Cert.ReferenceIdeal.gather_S100000x3_S256x64x1_S256x64x3_2_0_n_n_0_2_13.offCoord (ix3 t k l) 1 = _
    rw [GatherDims.batchCoord_eq_zero _ _ _ List.not_mem_nil]
    have hs : Cert.ReferenceIdeal.gather_S100000x3_S256x64x1_S256x64x3_2_0_n_n_0_2_13.start (ix3 t k l) idx 1 = 0 := by
      unfold GatherDims.start
      rw [dif_neg (show (1 : Fin 2) ∉ Cert.ReferenceIdeal.gather_S100000x3_S256x64x1_S256x64x3_2_0_n_n_0_2_13.startIndexMap from by decide)]
    rw [hs]
    simp only [Nat.add_zero, Nat.zero_add]
    unfold GatherDims.offCoord
    rw [dif_pos (show (1 : Fin 2) ∈ Cert.ReferenceIdeal.gather_S100000x3_S256x64x1_S256x64x3_2_0_n_n_0_2_13.sKept from by decide)]
    rfl

/-- The gather of a two by two matrix per Gaussian. -/
theorem gather_four (x : Cert.ReferenceIdeal.S100000x2x2.Idx → EReal) (idx : IVec Cert.ReferenceIdeal.S256x64x1 32) (t : Fin 256) (k : Fin 64) (l o : Fin 2) (b : Fin 100000)
    (hb : idx (ix3 t k 0) = BitVec.ofNat 32 b.val) :
    Host.gather Cert.ReferenceIdeal.gather_S100000x2x2_S256x64x1_S256x64x2x2_23_0_n_n_0_2_122 x idx (ix4 t k l o) = x (ix3 b l o) := by
  unfold Host.gather
  refine congrArg x (funext fun a => Fin.ext ?_)
  match a with
  | ⟨0, _⟩ =>
    show Cert.ReferenceIdeal.gather_S100000x2x2_S256x64x1_S256x64x2x2_23_0_n_n_0_2_122.start (ix4 t k l o) idx 0 + Cert.ReferenceIdeal.gather_S100000x2x2_S256x64x1_S256x64x2x2_23_0_n_n_0_2_122.batchCoord (ix4 t k l o) 0 + Cert.ReferenceIdeal.gather_S100000x2x2_S256x64x1_S256x64x2x2_23_0_n_n_0_2_122.offCoord (ix4 t k l o) 0 = _
    rw [GatherDims.batchCoord_eq_zero _ _ _ List.not_mem_nil]
    rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ Cert.ReferenceIdeal.gather_S100000x2x2_S256x64x1_S256x64x2x2_23_0_n_n_0_2_122.startIndexMap from List.mem_singleton.mpr rfl)]
    have hsi : Cert.ReferenceIdeal.gather_S100000x2x2_S256x64x1_S256x64x2x2_23_0_n_n_0_2_122.siIdx (ix4 t k l o) ⟨List.idxOf (0 : Fin 3) Cert.ReferenceIdeal.gather_S100000x2x2_S256x64x1_S256x64x2x2_23_0_n_n_0_2_122.startIndexMap,
        List.idxOf_lt_length_iff.2 (List.mem_singleton.mpr rfl)⟩ = (ix3 t k 0) := by
      funext b; refine Fin.ext ?_
      match b with
      | ⟨0, _⟩ => rfl
      | ⟨1, _⟩ => rfl
      | ⟨2, _⟩ => rfl
    rw [hsi, hb]
    exact word_nat _ _ b.isLt (by decide)
  | ⟨1, _⟩ =>
    show Cert.ReferenceIdeal.gather_S100000x2x2_S256x64x1_S256x64x2x2_23_0_n_n_0_2_122.start (ix4 t k l o) idx 1 + Cert.ReferenceIdeal.gather_S100000x2x2_S256x64x1_S256x64x2x2_23_0_n_n_0_2_122.batchCoord (ix4 t k l o) 1 + Cert.ReferenceIdeal.gather_S100000x2x2_S256x64x1_S256x64x2x2_23_0_n_n_0_2_122.offCoord (ix4 t k l o) 1 = _
    rw [GatherDims.batchCoord_eq_zero _ _ _ List.not_mem_nil]
    have hs : Cert.ReferenceIdeal.gather_S100000x2x2_S256x64x1_S256x64x2x2_23_0_n_n_0_2_122.start (ix4 t k l o) idx 1 = 0 := by
      unfold GatherDims.start
      rw [dif_neg (show (1 : Fin 3) ∉ Cert.ReferenceIdeal.gather_S100000x2x2_S256x64x1_S256x64x2x2_23_0_n_n_0_2_122.startIndexMap from by decide)]
    rw [hs]
    simp only [Nat.add_zero, Nat.zero_add]
    unfold GatherDims.offCoord
    rw [dif_pos (show (1 : Fin 3) ∈ Cert.ReferenceIdeal.gather_S100000x2x2_S256x64x1_S256x64x2x2_23_0_n_n_0_2_122.sKept from by decide)]
    rfl
  | ⟨2, _⟩ =>
    show Cert.ReferenceIdeal.gather_S100000x2x2_S256x64x1_S256x64x2x2_23_0_n_n_0_2_122.start (ix4 t k l o) idx 2 + Cert.ReferenceIdeal.gather_S100000x2x2_S256x64x1_S256x64x2x2_23_0_n_n_0_2_122.batchCoord (ix4 t k l o) 2 + Cert.ReferenceIdeal.gather_S100000x2x2_S256x64x1_S256x64x2x2_23_0_n_n_0_2_122.offCoord (ix4 t k l o) 2 = _
    rw [GatherDims.batchCoord_eq_zero _ _ _ List.not_mem_nil]
    have hs : Cert.ReferenceIdeal.gather_S100000x2x2_S256x64x1_S256x64x2x2_23_0_n_n_0_2_122.start (ix4 t k l o) idx 2 = 0 := by
      unfold GatherDims.start
      rw [dif_neg (show (2 : Fin 3) ∉ Cert.ReferenceIdeal.gather_S100000x2x2_S256x64x1_S256x64x2x2_23_0_n_n_0_2_122.startIndexMap from by decide)]
    rw [hs]
    simp only [Nat.add_zero, Nat.zero_add]
    unfold GatherDims.offCoord
    rw [dif_pos (show (2 : Fin 3) ∈ Cert.ReferenceIdeal.gather_S100000x2x2_S256x64x1_S256x64x2x2_23_0_n_n_0_2_122.sKept from by decide)]
    rfl

end Cert.Proof
-- ==== Proof.Pack.lean ====
/- What the host code puts into the blending kernel's input: for every tile and slot the chosen splat's numbers. -/
module

public import proofs.«01_k».proof.Proof.Tile
public import proofs.«01_k».proof.Proof.TopK
public import proofs.«01_k».proof.Proof.Gather
public import Idealize.ShloMosaic.Lib.Routing.OpsPair

@[expose] public section

set_option maxRecDepth 16384
set_option maxHeartbeats 4000000

noncomputable section

namespace Cert.Proof

open Idealize.ShloMosaic Idealize.ShloMosaic.TcCoe
open Idealize.SL Idealize.SL.Sem
open Cert.KernelIdeal Cert.KernelIdeal.Gen

variable (V : Valuation τ sig (Elt Ideal))

/-- The chosen column of tile `t`, slot `k`. -/
def pick (s : S256x100352.Idx → EReal) (t : Fin 256) (k : Fin 64) : Fin 100352 :=
  sel (fun n => s (ix2 t n)) (k.castLE (by decide))

/-- The chosen score. -/
theorem values_after (t : Fin 256) (k : Fin 64) :
    (StableHlo.after hostOps1_6 V (Proc.devRef .tc main_values) : S256x64.Idx → EReal) (ix2 t k)
      = (V (Proc.devRef .tc main_v81) : S256x100352.Idx → EReal) (ix2 t (pick (V (Proc.devRef .tc main_v81)) t k)) := by
  after_reads_simp
  exact topK_value (by decide) _ _ t k

/-- The chosen column's word. -/
theorem indices_after (t : Fin 256) (k : Fin 64) :
    (StableHlo.after hostOps1_6 V (Proc.devRef .tc main_indices) : S256x64.Idx → BitVec 32) (ix2 t k)
      = BitVec.ofNat 32 (pick (V (Proc.devRef .tc main_v81)) t k).val := by
  after_reads_simp
  exact topK_index (by decide) _ _ t k

/-- The words that the kernel's gather reads. -/
theorem gather_word (s : S256x100352.Idx → EReal) (t : Fin 256) (k : Fin 64) (h) (h1) (h2) :
    (fun b : BitVec 32 => Scalar.select (IntOp.cmpi .slt b 0#32) (IntOp.addi b 100352#32) b)
      ((Host.topK S256x64 1 (FloatOps.cmpfTotal (F := Ideal) (φ := .f32) .gt) s h).2
        (ix2 ⟨(t.val * 64 + k.val) / 64, h1⟩ ⟨(t.val * 64 + k.val) % 64, h2⟩)) = BitVec.ofNat 32 (pick s t k).val := by
  have ht : (⟨(t.val * 64 + k.val) / 64, h1⟩ : Fin 256) = t := Fin.ext (by have := k.isLt; show (t.val * 64 + k.val) / 64 = t.val; omega)
  have hk : (⟨(t.val * 64 + k.val) % 64, h2⟩ : Fin 64) = k := Fin.ext (by have := k.isLt; show (t.val * 64 + k.val) % 64 = k.val; omega)
  rw [ht, hk, topK_index (by decide) s h t k]
  exact Routing.wrap_of_lt _ _ (by
    have := (pick s t k).isLt
    show (BitVec.ofNat 32 (pick s t k).val).toNat < 2 ^ 31
    rw [BitVec.toNat_ofNat, Nat.mod_eq_of_lt (by omega)]
    omega)

/-- Column 0 of the blending kernel's input is feature 0 of the chosen column. -/
theorem pack_0 (t : Fin 256) (k : Fin 64) :
    (StableHlo.after hostOps1_7 (StableHlo.after hostOps1_6 V) (Proc.devRef .tc main_v127) : S256x64x16.Idx → EReal) (ix3 t k 0)
      = (V (Proc.devRef .tc main_v25) : S16x100352.Idx → EReal) (ix2 0 (pick (V (Proc.devRef .tc main_v81)) t k)) := by
  after_reads_simp
  simp -implicitDefEqProofs only [StableHlo.TRef.toBuf, StableHlo.TRef.ofBuf, cast_cast, cast_eq]
  pointwise
  after_reads_simp
  pointwise
  refine gather_feat _ _ _ _ _ ?_
  pointwise
  exact gather_word _ t k _ _ _

/-- Column 1 of the blending kernel's input is feature 1 of the chosen column. -/
theorem pack_1 (t : Fin 256) (k : Fin 64) :
    (StableHlo.after hostOps1_7 (StableHlo.after hostOps1_6 V) (Proc.devRef .tc main_v127) : S256x64x16.Idx → EReal) (ix3 t k 1)
      = (V (Proc.devRef .tc main_v25) : S16x100352.Idx → EReal) (ix2 1 (pick (V (Proc.devRef .tc main_v81)) t k)) := by
  after_reads_simp
  simp -implicitDefEqProofs only [StableHlo.TRef.toBuf, StableHlo.TRef.ofBuf, cast_cast, cast_eq]
  pointwise
  after_reads_simp
  pointwise
  refine gather_feat _ _ _ _ _ ?_
  pointwise
  exact gather_word _ t k _ _ _

/-- Column 2 of the blending kernel's input is feature 4 of the chosen column. -/
theorem pack_2 (t : Fin 256) (k : Fin 64) :
    (StableHlo.after hostOps1_7 (StableHlo.after hostOps1_6 V) (Proc.devRef .tc main_v127) : S256x64x16.Idx → EReal) (ix3 t k 2)
      = (V (Proc.devRef .tc main_v25) : S16x100352.Idx → EReal) (ix2 4 (pick (V (Proc.devRef .tc main_v81)) t k)) := by
  after_reads_simp
  simp -implicitDefEqProofs only [StableHlo.TRef.toBuf, StableHlo.TRef.ofBuf, cast_cast, cast_eq]
  pointwise
  after_reads_simp
  pointwise
  refine gather_feat _ _ _ _ _ ?_
  pointwise
  exact gather_word _ t k _ _ _

/-- Column 3 of the blending kernel's input is feature 5 of the chosen column. -/
theorem pack_3 (t : Fin 256) (k : Fin 64) :
    (StableHlo.after hostOps1_7 (StableHlo.after hostOps1_6 V) (Proc.devRef .tc main_v127) : S256x64x16.Idx → EReal) (ix3 t k 3)
      = (V (Proc.devRef .tc main_v25) : S16x100352.Idx → EReal) (ix2 5 (pick (V (Proc.devRef .tc main_v81)) t k)) := by
  after_reads_simp
  simp -implicitDefEqProofs only [StableHlo.TRef.toBuf, StableHlo.TRef.ofBuf, cast_cast, cast_eq]
  pointwise
  after_reads_simp
  pointwise
  refine gather_feat _ _ _ _ _ ?_
  pointwise
  exact gather_word _ t k _ _ _

/-- Column 4 of the blending kernel's input is feature 6 of the chosen column. -/
theorem pack_4 (t : Fin 256) (k : Fin 64) :
    (StableHlo.after hostOps1_7 (StableHlo.after hostOps1_6 V) (Proc.devRef .tc main_v127) : S256x64x16.Idx → EReal) (ix3 t k 4)
      = (V (Proc.devRef .tc main_v25) : S16x100352.Idx → EReal) (ix2 6 (pick (V (Proc.devRef .tc main_v81)) t k)) := by
  after_reads_simp
  simp -implicitDefEqProofs only [StableHlo.TRef.toBuf, StableHlo.TRef.ofBuf, cast_cast, cast_eq]
  pointwise
  after_reads_simp
  pointwise
  refine gather_feat _ _ _ _ _ ?_
  pointwise
  exact gather_word _ t k _ _ _

/-- Column 5 of the blending kernel's input is feature 7 of the chosen column. -/
theorem pack_5 (t : Fin 256) (k : Fin 64) :
    (StableHlo.after hostOps1_7 (StableHlo.after hostOps1_6 V) (Proc.devRef .tc main_v127) : S256x64x16.Idx → EReal) (ix3 t k 5)
      = (V (Proc.devRef .tc main_v25) : S16x100352.Idx → EReal) (ix2 7 (pick (V (Proc.devRef .tc main_v81)) t k)) := by
  after_reads_simp
  simp -implicitDefEqProofs only [StableHlo.TRef.toBuf, StableHlo.TRef.ofBuf, cast_cast, cast_eq]
  pointwise
  after_reads_simp
  pointwise
  refine gather_feat _ _ _ _ _ ?_
  pointwise
  exact gather_word _ t k _ _ _

/-- Column 8 of the blending kernel's input is feature 8 of the chosen column. -/
theorem pack_8 (t : Fin 256) (k : Fin 64) :
    (StableHlo.after hostOps1_7 (StableHlo.after hostOps1_6 V) (Proc.devRef .tc main_v127) : S256x64x16.Idx → EReal) (ix3 t k 8)
      = (V (Proc.devRef .tc main_v25) : S16x100352.Idx → EReal) (ix2 8 (pick (V (Proc.devRef .tc main_v81)) t k)) := by
  after_reads_simp
  simp -implicitDefEqProofs only [StableHlo.TRef.toBuf, StableHlo.TRef.ofBuf, cast_cast, cast_eq]
  pointwise
  after_reads_simp
  pointwise
  refine gather_feat _ _ _ _ _ ?_
  pointwise
  exact gather_word _ t k _ _ _

/-- Column 9 of the blending kernel's input is feature 9 of the chosen column. -/
theorem pack_9 (t : Fin 256) (k : Fin 64) :
    (StableHlo.after hostOps1_7 (StableHlo.after hostOps1_6 V) (Proc.devRef .tc main_v127) : S256x64x16.Idx → EReal) (ix3 t k 9)
      = (V (Proc.devRef .tc main_v25) : S16x100352.Idx → EReal) (ix2 9 (pick (V (Proc.devRef .tc main_v81)) t k)) := by
  after_reads_simp
  simp -implicitDefEqProofs only [StableHlo.TRef.toBuf, StableHlo.TRef.ofBuf, cast_cast, cast_eq]
  pointwise
  after_reads_simp
  pointwise
  refine gather_feat _ _ _ _ _ ?_
  pointwise
  exact gather_word _ t k _ _ _

/-- Column 10 of the blending kernel's input is feature 10 of the chosen column. -/
theorem pack_10 (t : Fin 256) (k : Fin 64) :
    (StableHlo.after hostOps1_7 (StableHlo.after hostOps1_6 V) (Proc.devRef .tc main_v127) : S256x64x16.Idx → EReal) (ix3 t k 10)
      = (V (Proc.devRef .tc main_v25) : S16x100352.Idx → EReal) (ix2 10 (pick (V (Proc.devRef .tc main_v81)) t k)) := by
  after_reads_simp
  simp -implicitDefEqProofs only [StableHlo.TRef.toBuf, StableHlo.TRef.ofBuf, cast_cast, cast_eq]
  pointwise
  after_reads_simp
  pointwise
  refine gather_feat _ _ _ _ _ ?_
  pointwise
  exact gather_word _ t k _ _ _

/-- Column 6 of the blending kernel's input says whether the chosen score counts. -/
theorem pack_6 (t : Fin 256) (k : Fin 64) :
    (StableHlo.after hostOps1_7 (StableHlo.after hostOps1_6 V) (Proc.devRef .tc main_v127) : S256x64x16.Idx → EReal) (ix3 t k 6)
      = FloatOps.uitofp (F := Ideal) .f32 (BitVec.ofBool (decide (Spec.lit 0xCE6E6B28#32 <
          (V (Proc.devRef .tc main_v81) : S256x100352.Idx → EReal) (ix2 t (pick (V (Proc.devRef .tc main_v81)) t k))))) := by
  have h := topK_value (K := 64) (by decide) (V (Proc.devRef .tc main_v81) : S256x100352.Idx → EReal) sliceFits_S256x100352_S256x64 t k
  after_reads_simp
  simp -implicitDefEqProofs only [StableHlo.TRef.toBuf, StableHlo.TRef.ofBuf, cast_cast, cast_eq]
  pointwise
  after_reads_simp
  pointwise
  unfold pick
  rw [← h]

end Cert.Proof
-- ==== Proof.Blend0.lean ====
/- The blending kernel's block: opacities and places. -/
module

public import proofs.«01_k».proof.Proof.Tile

@[expose] public section

set_option maxRecDepth 16384

noncomputable section

namespace Cert.Proof

open Idealize.ShloMosaic
open Cert.KernelIdeal Cert.KernelIdeal.Gen

/-- Pixel number `i` of a tile's side as a number. -/
def lane (i : Nat) : EReal := FloatOps.sitofp (F := Ideal) .f32 (BitVec.ofNat 32 i)

/-- How much of a pixel at `(x, y)` a splat with numbers `g` covers: `g 0` and `g 1` its place, `g 2`, `g 3` and `g 4` the
    inverse covariance, `g 5` the opacity and `g 6` whether it counts. -/
def alpha (x y : EReal) (g : Fin 16 → EReal) : EReal :=
  min (Spec.lit 0x3F7D70A4#32) (max (Spec.lit 0x3C23D70A#32) (g 5 * Ideal.exp (min (Spec.lit 0xBF000000#32 *
    (g 2 * (x - g 0) * (x - g 0) + g 4 * (y - g 1) * (y - g 1) + g 3 * (x - g 0) * (y - g 1))) 0))) * g 6

variable (i : grid1.Coords) (x0 : Vec Ideal S1x64x16 .f32) (p : Fin 256)

/-- The whole-block load is the block. -/
theorem ldp : View.ld x0 r1_0 = x0 :=
  View.ld_unit_zero (funext fun a => by match a with | ⟨0, _⟩ => rfl | ⟨1, _⟩ => rfl | ⟨2, _⟩ => rfl) _ x0

/-- The left edge. -/
theorem pay13 : k1_pay13 (F := Ideal) i = left (i 0) := by
  have h : ∀ t : Fin 256, Scalar.select (Scalar.andi (Scalar.cmpi .ne (Scalar.subi (Scalar.extui (Scalar.cmpi .sgt (BitVec.ofNat 32 t.val) 0#32)) (Scalar.extui (Scalar.cmpi .slt (BitVec.ofNat 32 t.val) 0#32)))
      (Scalar.subi (Scalar.extui (Scalar.cmpi .sgt 16#32 0#32)) (Scalar.extui (Scalar.cmpi .slt 16#32 0#32) : BitVec 32)))
      (Scalar.cmpi .ne (Scalar.remsi (BitVec.ofNat 32 t.val) 16#32) 0#32))
      (Scalar.subi (Scalar.divsi (BitVec.ofNat 32 t.val) 16#32) 1#32) (Scalar.divsi (BitVec.ofNat 32 t.val) 16#32) = BitVec.ofNat 32 (t.val / 16) := by decide +kernel
  exact congrArg (fun w : BitVec 32 => FloatOps.sitofp (F := Ideal) .f32 (IntOp.muli w 16#32)) (h (i 0))

/-- The top edge. -/
theorem pay14 : k1_pay14 (F := Ideal) i = top (i 0) := by
  have h : ∀ t : Fin 256, Scalar.select (Scalar.andi (Scalar.xori (Scalar.cmpi .slt (Scalar.remsi (BitVec.ofNat 32 t.val) (Scalar.select (Scalar.cmpi .eq 16#32 0#32) 1#32 16#32)) 0#32)
      (Scalar.cmpi .slt (Scalar.select (Scalar.cmpi .eq 16#32 0#32) 1#32 16#32) 0#32))
      (Scalar.cmpi .ne (Scalar.remsi (BitVec.ofNat 32 t.val) (Scalar.select (Scalar.cmpi .eq 16#32 0#32) 1#32 16#32)) 0#32))
      (Scalar.addi (Scalar.remsi (BitVec.ofNat 32 t.val) (Scalar.select (Scalar.cmpi .eq 16#32 0#32) 1#32 16#32)) (Scalar.select (Scalar.cmpi .eq 16#32 0#32) 1#32 16#32))
      (Scalar.remsi (BitVec.ofNat 32 t.val) (Scalar.select (Scalar.cmpi .eq 16#32 0#32) 1#32 16#32)) = BitVec.ofNat 32 (t.val % 16) := by decide +kernel
  exact congrArg (fun w : BitVec 32 => FloatOps.sitofp (F := Ideal) .f32 (IntOp.muli w 16#32)) (h (i 0))

/-- The pixel's first coordinate. -/
theorem st30 : k1_pay30 i x0 (ix2 0 p) = left (i 0) + lane (p.val / 16) + Spec.lit 0x3F000000#32 := by
  unfold k1_pay30
  rw [pay13]
  pointwise [k1_pay16, k1_pay20]
  have h : ∀ p : Fin 256, Scalar.select
      (IntOp.andi
        (IntOp.cmpi CmpIPredicate.ne
          (IntOp.subi (BitVec.setWidth 32 (IntOp.cmpi CmpIPredicate.sgt (BitVec.ofNat 32 p.val) 0#32))
            (BitVec.setWidth 32 (IntOp.cmpi CmpIPredicate.slt (BitVec.ofNat 32 p.val) 0#32)))
          (Scalar.subi (Scalar.extui (Scalar.cmpi CmpIPredicate.sgt 16#32 0#32))
            (Scalar.extui (Scalar.cmpi CmpIPredicate.slt 16#32 0#32))))
        (IntOp.cmpi CmpIPredicate.ne (IntOp.remsi ArithUnit.vector (BitVec.ofNat 32 p.val) 16#32) 0#32))
      (IntOp.subi (IntOp.divsi ArithUnit.vector (BitVec.ofNat 32 p.val) 16#32) 1#32)
      (IntOp.divsi ArithUnit.vector (BitVec.ofNat 32 p.val) 16#32) = BitVec.ofNat 32 (p.val / 16) := by decide +kernel
  rw [h p, add_comm (left (i 0))]
  rfl

/-- The pixel's second coordinate inside the tile. -/
theorem st29 : k1_pay29 i x0 (ix2 0 p) = lane (p.val % 16) := by
  unfold k1_pay29
  pointwise [k1_pay15, k1_pay20]
  have h : ∀ p : Fin 256, Scalar.select
      (IntOp.andi
        (IntOp.xori
          (IntOp.cmpi CmpIPredicate.slt
            (IntOp.remsi ArithUnit.vector (BitVec.ofNat 32 p.val)
              (Scalar.select (Scalar.cmpi CmpIPredicate.eq 16#32 0#32) 1#32 16#32))
            0#32)
          (Scalar.cmpi CmpIPredicate.slt (Scalar.select (Scalar.cmpi CmpIPredicate.eq 16#32 0#32) 1#32 16#32) 0#32))
        (IntOp.cmpi CmpIPredicate.ne
          (IntOp.remsi ArithUnit.vector (BitVec.ofNat 32 p.val)
            (Scalar.select (Scalar.cmpi CmpIPredicate.eq 16#32 0#32) 1#32 16#32))
          0#32))
      (IntOp.addi
        (IntOp.remsi ArithUnit.vector (BitVec.ofNat 32 p.val)
          (Scalar.select (Scalar.cmpi CmpIPredicate.eq 16#32 0#32) 1#32 16#32))
        (Scalar.select (Scalar.cmpi CmpIPredicate.eq 16#32 0#32) 1#32 16#32))
      (IntOp.remsi ArithUnit.vector (BitVec.ofNat 32 p.val)
        (Scalar.select (Scalar.cmpi CmpIPredicate.eq 16#32 0#32) 1#32 16#32)) = BitVec.ofNat 32 (p.val % 16) := by decide +kernel
  rw [h p]
  rfl

/-- Column 0 of the block. -/
theorem colp0 (k : Fin 64) : k1_pay6 x0 (ix2 k 0) = x0 (ix3 0 k 0) := by
  pointwise [k1_pay6, k1_pay5]

/-- Column 1 of the block. -/
theorem colp1 (k : Fin 64) : k1_pay7 x0 (ix2 k 0) = x0 (ix3 0 k 1) := by
  pointwise [k1_pay7, k1_pay5]

/-- Column 2 of the block. -/
theorem colp2 (k : Fin 64) : k1_pay8 x0 (ix2 k 0) = x0 (ix3 0 k 2) := by
  pointwise [k1_pay8, k1_pay5]

/-- Column 3 of the block. -/
theorem colp3 (k : Fin 64) : k1_pay9 x0 (ix2 k 0) = x0 (ix3 0 k 3) := by
  pointwise [k1_pay9, k1_pay5]

/-- Column 4 of the block. -/
theorem colp4 (k : Fin 64) : k1_pay10 x0 (ix2 k 0) = x0 (ix3 0 k 4) := by
  pointwise [k1_pay10, k1_pay5]

/-- Column 5 of the block. -/
theorem colp5 (k : Fin 64) : k1_pay11 x0 (ix2 k 0) = x0 (ix3 0 k 5) := by
  pointwise [k1_pay11, k1_pay5]

/-- Column 6 of the block. -/
theorem colp6 (k : Fin 64) : k1_pay12 x0 (ix2 k 0) = x0 (ix3 0 k 6) := by
  pointwise [k1_pay12, k1_pay5]

/-- The coverage. -/
theorem st31 (k : Fin 64) : k1_pay31 i x0 (ix2 k p)
    = alpha (left (i 0) + lane (p.val / 16) + Spec.lit 0x3F000000#32) (top (i 0) + lane (p.val % 16) + Spec.lit 0x3F000000#32)
      (fun j => x0 (ix3 0 k j)) := by
  unfold k1_pay31
  rw [pay14]
  pointwise [k1_pay17, k1_pay22, k1_pay23, k1_pay24, k1_pay25, k1_pay26, k1_pay27, k1_pay28]
  simp only [ldp, colp0, colp1, colp2, colp3, colp4, colp5, colp6, st30, st29]
  rw [add_comm (lane (p.val % 16))]
  rfl

end Cert.Proof
-- ==== Proof.Blend1.lean ====
/- The blending kernel's running products by doubling. -/
module

public import proofs.«01_k».proof.Proof.Blend0

@[expose] public section

set_option maxRecDepth 16384

noncomputable section

namespace Cert.Proof

open Idealize.ShloMosaic
open Cert.KernelIdeal Cert.KernelIdeal.Gen

/-- The product of the last `s` factors before position `k`. -/
def win (om : Fin 64 → EReal) (s : Nat) (k : Fin 64) : EReal := ∏ q : Fin 64, if q.val < k.val ∧ k.val ≤ q.val + s then om q else 1

/-- One factor: the one before. -/
theorem win_one (om : Fin 64 → EReal) (k : Fin 64) :
    win om 1 k = if h : k.val < 1 then 1 else om ⟨k.val - 1, by have := k.isLt; omega⟩ := by
  have hk := k.isLt
  unfold win
  by_cases h : k.val < 1
  · rw [dif_pos h]
    exact Finset.prod_eq_one fun q _ => if_neg (by omega)
  · rw [dif_neg h, Finset.prod_eq_single (⟨k.val - 1, by omega⟩ : Fin 64)]
    · exact if_pos ⟨by show k.val - 1 < k.val; omega, by show k.val ≤ k.val - 1 + 1; omega⟩
    · exact fun q _ hq => if_neg fun hh => hq (Fin.ext (by show q.val = k.val - 1; omega))
    · exact fun hq => absurd (Finset.mem_univ _) hq

/-- Twice as many factors: the last `s` and the `s` before them. -/
theorem win_double (om : Fin 64 → EReal) (s s2 : Nat) (h2 : s2 = 2 * s) (hs : 0 < s) (k : Fin 64) :
    win om s k * (if h : k.val < s then 1 else win om s ⟨k.val - s, by have := k.isLt; omega⟩) = win om s2 k := by
  subst h2
  have hk := k.isLt
  by_cases h : k.val < s
  · rw [dif_pos h, mul_one]
    unfold win
    exact Finset.prod_congr rfl fun q _ => if_congr (by constructor <;> intro hh <;> exact ⟨hh.1, by omega⟩) rfl rfl
  · rw [dif_neg h]
    unfold win
    rw [← Finset.prod_mul_distrib]
    refine Finset.prod_congr rfl fun q _ => ?_
    show (if q.val < k.val ∧ k.val ≤ q.val + s then om q else 1)
      * (if q.val < k.val - s ∧ k.val - s ≤ q.val + s then om q else 1) = _
    by_cases h1 : q.val < k.val ∧ k.val ≤ q.val + s
    · rw [if_pos h1, if_neg (by omega), if_pos (by omega), mul_one]
    · rw [if_neg h1, one_mul]
      exact if_congr (by omega) rfl rfl

/-- All factors before `k`. -/
theorem win_all (om : Fin 64 → EReal) (k : Fin 64) : win om 64 k = ∏ q : Fin 64, if q.val < k.val then om q else 1 := by
  have hk := k.isLt
  unfold win
  exact Finset.prod_congr rfl fun q _ => if_congr (by omega) rfl rfl

/-- The sequence moved by one: a one, then the factors. -/
theorem first_shift (v : FVec Ideal S64x256 .f32) (om : Fin 64 → EReal) (p : Fin 256) (hv : ∀ k, v (ix2 k p) = om k) (k : Fin 64) :
    concatenate S64x256 0 [⟨S1x256, broadcast S1x256 (Scalar.ofBits .f32 0x3F800000#32)⟩,
      ⟨S63x256, extractStridedSlice S63x256 ![0, 0] v slices_S64x256_o0_0_S63x256⟩] concatenates_S1x256_S63x256_S64x256_d0 (ix2 k p) = win om 1 k := by
  rw [win_one]
  pointwise
  simp only [hv]

/-- Doubling from 1 factors to 2: the sequence moved by 1. -/
theorem shift1 (v : FVec Ideal S64x256 .f32) (om : Fin 64 → EReal) (p : Fin 256) (hv : ∀ k, v (ix2 k p) = win om 1 k) (k : Fin 64) :
    mulf v (concatenate S64x256 0 [⟨S1x256, broadcast S1x256 (Scalar.ofBits .f32 0x3F800000#32)⟩,
      ⟨S63x256, extractStridedSlice S63x256 ![0, 0] v slices_S64x256_o0_0_S63x256⟩] concatenates_S1x256_S63x256_S64x256_d0) (ix2 k p) = win om 2 k := by
  rw [← win_double om 1 2 rfl (by decide) k, ← hv k]
  show v (ix2 k p) * _ = v (ix2 k p) * _
  congr 1
  pointwise
  simp only [hv]

/-- Doubling from 2 factors to 4: the sequence moved by 2. -/
theorem shift2 (v : FVec Ideal S64x256 .f32) (om : Fin 64 → EReal) (p : Fin 256) (hv : ∀ k, v (ix2 k p) = win om 2 k) (k : Fin 64) :
    mulf v (concatenate S64x256 0 [⟨S2x256, broadcast S2x256 (Scalar.ofBits .f32 0x3F800000#32)⟩,
      ⟨S62x256, extractStridedSlice S62x256 ![0, 0] v slices_S64x256_o0_0_S62x256⟩] concatenates_S2x256_S62x256_S64x256_d0) (ix2 k p) = win om 4 k := by
  rw [← win_double om 2 4 rfl (by decide) k, ← hv k]
  show v (ix2 k p) * _ = v (ix2 k p) * _
  congr 1
  pointwise
  simp only [hv]

/-- Doubling from 4 factors to 8: the sequence moved by 4. -/
theorem shift4 (v : FVec Ideal S64x256 .f32) (om : Fin 64 → EReal) (p : Fin 256) (hv : ∀ k, v (ix2 k p) = win om 4 k) (k : Fin 64) :
    mulf v (concatenate S64x256 0 [⟨S4x256, broadcast S4x256 (Scalar.ofBits .f32 0x3F800000#32)⟩,
      ⟨S60x256, extractStridedSlice S60x256 ![0, 0] v slices_S64x256_o0_0_S60x256⟩] concatenates_S4x256_S60x256_S64x256_d0) (ix2 k p) = win om 8 k := by
  rw [← win_double om 4 8 rfl (by decide) k, ← hv k]
  show v (ix2 k p) * _ = v (ix2 k p) * _
  congr 1
  pointwise
  simp only [hv]

/-- Doubling from 8 factors to 16: the sequence moved by 8. -/
theorem shift8 (v : FVec Ideal S64x256 .f32) (om : Fin 64 → EReal) (p : Fin 256) (hv : ∀ k, v (ix2 k p) = win om 8 k) (k : Fin 64) :
    mulf v (concatenate S64x256 0 [⟨S8x256, broadcast S8x256 (Scalar.ofBits .f32 0x3F800000#32)⟩,
      ⟨S56x256, extractStridedSlice S56x256 ![0, 0] v slices_S64x256_o0_0_S56x256⟩] concatenates_S8x256_S56x256_S64x256_d0) (ix2 k p) = win om 16 k := by
  rw [← win_double om 8 16 rfl (by decide) k, ← hv k]
  show v (ix2 k p) * _ = v (ix2 k p) * _
  congr 1
  pointwise
  simp only [hv]

/-- Doubling from 16 factors to 32: the sequence moved by 16. -/
theorem shift16 (v : FVec Ideal S64x256 .f32) (om : Fin 64 → EReal) (p : Fin 256) (hv : ∀ k, v (ix2 k p) = win om 16 k) (k : Fin 64) :
    mulf v (concatenate S64x256 0 [⟨S16x256, broadcast S16x256 (Scalar.ofBits .f32 0x3F800000#32)⟩,
      ⟨S48x256, extractStridedSlice S48x256 ![0, 0] v slices_S64x256_o0_0_S48x256⟩] concatenates_S16x256_S48x256_S64x256_d0) (ix2 k p) = win om 32 k := by
  rw [← win_double om 16 32 rfl (by decide) k, ← hv k]
  show v (ix2 k p) * _ = v (ix2 k p) * _
  congr 1
  pointwise
  simp only [hv]

/-- Doubling from 32 factors to 64: the sequence moved by 32. -/
theorem shift32 (v : FVec Ideal S64x256 .f32) (om : Fin 64 → EReal) (p : Fin 256) (hv : ∀ k, v (ix2 k p) = win om 32 k) (k : Fin 64) :
    mulf v (concatenate S64x256 0 [⟨S32x256, broadcast S32x256 (Scalar.ofBits .f32 0x3F800000#32)⟩,
      ⟨S32x256, extractStridedSlice S32x256 ![0, 0] v slices_S64x256_o0_0_S32x256⟩] concatenates_S32x256_S32x256_S64x256_d0) (ix2 k p) = win om 64 k := by
  rw [← win_double om 32 64 rfl (by decide) k, ← hv k]
  show v (ix2 k p) * _ = v (ix2 k p) * _
  congr 1
  pointwise
  simp only [hv]

/-- The coverage of slot `k` at pixel `p` of tile `t`, from the numbers `g` of the tile's slots. -/
def cover (t p : Fin 256) (g : Fin 64 → Fin 16 → EReal) (k : Fin 64) : EReal :=
  alpha (left t + lane (p.val / 16) + Spec.lit 0x3F000000#32) (top t + lane (p.val % 16) + Spec.lit 0x3F000000#32) (g k)

/-- The weight of slot `k`: its coverage times what the slots before it leave. -/
def weight (t p : Fin 256) (g : Fin 64 → Fin 16 → EReal) (k : Fin 64) : EReal :=
  cover t p g k * ∏ q : Fin 64, if q.val < k.val then 1 - cover t p g q else 1

/-- Channel `l` of a pixel. -/
def chan (t p : Fin 256) (g : Fin 64 → Fin 16 → EReal) (l : Fin 3) : EReal :=
  ∑ k : Fin 64, weight t p g k * g k ⟨8 + l.val, by have := l.isLt; omega⟩

variable (i : grid1.Coords) (x0 : Vec Ideal S1x64x16 .f32) (p : Fin 256)

/-- The numbers of the block's slots. -/
def blk (k : Fin 64) (j : Fin 16) : EReal := x0 (ix3 0 k j)

/-- The pattern of the number one. -/
theorem lit_one : Ideal.ofBits .f32 0x3F800000#32 = 1 := by
  simp [Ideal.ofBits, Ideal.ieee, -EReal.coe_mul, -EReal.coe_neg]
  norm_num

/-- The products of four. -/
theorem st32 (k : Fin 64) : k1_pay32 i x0 (ix2 k p) = win (fun q => 1 - cover (i 0) p (blk x0) q) 4 k := by
  have h1 := fun k => first_shift (subf (broadcast S64x256 (Scalar.ofBits .f32 0x3F800000#32)) (k1_pay31 i x0)) (fun q => 1 - cover (i 0) p (blk x0) q) p
    (fun k => by pointwise; rw [st31]; rfl) k
  exact shift2 _ _ p (shift1 _ _ p h1) k

/-- The products of eight. -/
theorem st33 (k : Fin 64) : k1_pay32 i x0 (ix2 k p) * k1_pay33 i x0 (ix2 k p) = win (fun q => 1 - cover (i 0) p (blk x0) q) 8 k :=
  shift4 (k1_pay32 i x0) _ p (st32 i x0 p) k

/-- The contribution of slot `k` to a pixel: its coverage times what the slots before it leave. -/
theorem contrib (k : Fin 64) : k1_pay1 (k1_pay31 i x0) (k1_pay32 i x0) (k1_pay33 i x0) (ix2 k p)
    = weight (i 0) p (blk x0) k := by
  unfold weight
  have h3 : ∀ k, mulf (k1_pay32 i x0) (k1_pay33 i x0) (ix2 k p) = win (fun q => 1 - cover (i 0) p (blk x0) q) 8 k := st33 i x0 p
  have h6 := shift32 _ _ p (shift16 _ _ p (shift8 _ _ p h3))
  rw [← win_all]
  refine (congrArg (k1_pay31 i x0 (ix2 k p) * ·) (h6 k)).trans ?_
  rw [st31]
  rfl

/-- The first color channel. -/
theorem chan0 : k1_pay2 (k1_pay21 i x0) (k1_pay31 i x0) (k1_pay32 i x0) (k1_pay33 i x0) (ix3 0 0 p)
    = ∑ k : Fin 64, weight (i 0) p (blk x0) k * blk x0 k 8 := by
  unfold k1_pay21
  rw [ldp]
  pointwise [k1_pay2, k1_pay5]
  simp only [contrib, zero_add]
  rfl

/-- The second color channel. -/
theorem chan1 : k1_pay3 (k1_pay21 i x0) (k1_pay31 i x0) (k1_pay32 i x0) (k1_pay33 i x0) (ix3 0 0 p)
    = ∑ k : Fin 64, weight (i 0) p (blk x0) k * blk x0 k 9 := by
  unfold k1_pay21
  rw [ldp]
  pointwise [k1_pay3, k1_pay5]
  simp only [contrib, zero_add]
  rfl

/-- The third color channel. -/
theorem chan2 : k1_pay4 (k1_pay21 i x0) (k1_pay31 i x0) (k1_pay32 i x0) (k1_pay33 i x0) (ix3 0 0 p)
    = ∑ k : Fin 64, weight (i 0) p (blk x0) k * blk x0 k 10 := by
  unfold k1_pay21
  rw [ldp]
  pointwise [k1_pay4, k1_pay5]
  simp only [contrib, zero_add]
  rfl

/-- The stored block. -/
theorem out1_apply (l : Fin 3) : out1_1 i x0 (ix3 0 l p) = chan (i 0) p (blk x0) l := by
  unfold out1_1
  match l with
  | ⟨2, _⟩ =>
    have e : (ix3 0 2 p : S1x3x256.Idx) = r1_3.emb (ix3 0 0 p) := funext fun a => Fin.ext (by
      match a with
      | ⟨0, _⟩ => rfl
      | ⟨1, _⟩ => rfl
      | ⟨2, _⟩ => show p.val = 0 + 1 * p.val; omega)
    exact (congrArg (View.canon _) e).trans ((View.canon_cons_emb _ _ _ _).trans (chan2 i x0 p))
  | ⟨1, _⟩ =>
    rw [View.canon_cons_of_not_mem]
    · have e : (ix3 0 1 p : S1x3x256.Idx) = r1_2.emb (ix3 0 0 p) := funext fun a => Fin.ext (by
        match a with
        | ⟨0, _⟩ => rfl
        | ⟨1, _⟩ => rfl
        | ⟨2, _⟩ => show p.val = 0 + 1 * p.val; omega)
      exact (congrArg (View.canon _) e).trans ((View.canon_cons_emb _ _ _ _).trans (chan1 i x0 p))
    · exact fun h => absurd ((Rect.mem_set_unit (s := S1x3x256) (inb := inb_S1x3x256_S1x1x256_0_2_0)).mp h 1).1 (show ¬ 2 ≤ 1 by decide)
  | ⟨0, _⟩ =>
    rw [View.canon_cons_of_not_mem, View.canon_cons_of_not_mem]
    · have e : (ix3 0 0 p : S1x3x256.Idx) = r1_1.emb (ix3 0 0 p) := funext fun a => Fin.ext (by
        match a with
        | ⟨0, _⟩ => rfl
        | ⟨1, _⟩ => rfl
        | ⟨2, _⟩ => show p.val = 0 + 1 * p.val; omega)
      exact (congrArg (View.canon _) e).trans ((View.canon_cons_emb _ _ _ _).trans (chan0 i x0 p))
    · exact fun h => absurd ((Rect.mem_set_unit (s := S1x3x256) (inb := inb_S1x3x256_S1x1x256_0_1_0)).mp h 1).1 (show ¬ 1 ≤ 0 by decide)
    · exact fun h => absurd ((Rect.mem_set_unit (s := S1x3x256) (inb := inb_S1x3x256_S1x1x256_0_2_0)).mp h 1).1 (show ¬ 2 ≤ 0 by decide)

end Cert.Proof
-- ==== Proof.Region1.lean ====
/- What the image array holds after the blending kernel: at every tile, channel and pixel the blended color of the
   tile's slots. -/
module

public import proofs.«01_k».proof.Proof.Blend1
public import Idealize.ShloMosaic.Lib.Pipeline.ValueKit

@[expose] public section

set_option maxRecDepth 16384

noncomputable section

namespace Cert.Proof

open Idealize.ShloMosaic Idealize.ShloMosaic.TcCoe
open Idealize.SL Idealize.SL.Sem
open Cert.KernelIdeal Cert.KernelIdeal.Gen

variable (V : (c : Dev nD) → (b : Ref sig .tc) → Buf (Elt Ideal) ((c : Thread nD τ).loc b)) (c : Dev nD)

/-- The whole image array after the kernel, from the array `X` of slots. -/
def imgArr (X : S256x64x16.Idx → EReal) : S256x3x256.Idx → EReal :=
  fun i => chan (i 0) (i 2) (fun k j => X (ix3 (i 0) k j)) (i 1)

/-- The windows' block numbers at a grid point. -/
theorem index1 : ∀ t : Fin cfg1.N, win1_0.index t 0 = win1_1.index t 0 ∧ win1_0.index t 1 = 0 ∧ win1_0.index t 2 = 0
    ∧ win1_1.index t 1 = 0 ∧ win1_1.index t 2 = 0 ∧ win1_1.index t 0 = (grid1.coords t 0).val := by decide +kernel

/-- What the blending kernel's pipeline leaves in its output array. -/
theorem arr1 : (dat1 V c).arrAt 1 cfg1.N = imgArr (V c main_v127) := by
  refine (dat1 V c).arrAt_eq_of_covers 1 _ (by decide +kernel) fun t hf y => ?_
  blk_simp
  rw [after1_1]
  obtain ⟨i00, i01, i02, i11, i12, i10⟩ := index1 t
  have hy0 : (y 0).val = 0 := by have : (y 0).val < 1 := (y 0).isLt; omega
  have e0 : ((win1_1.blk t).view.emb y) 0 = grid1.coords t 0 := Fin.ext (by blk_simp; rw [i10])
  have e1 : ((win1_1.blk t).view.emb y) 1 = y 1 := Fin.ext (by blk_simp; rw [i11]; omega)
  have e2 : ((win1_1.blk t).view.emb y) 2 = y 2 := Fin.ext (by blk_simp; rw [i12]; omega)
  have h0 : blk (iblk1 V c 0 t) = fun k j => V c main_v127 (ix3 (((win1_1.blk t).view.emb y) 0) k j) := by
    funext k j
    unfold blk iblk1
    show V c main_v127 (((cfg1.win 0).blk t).view.emb (ix3 0 k j)) = _
    refine congrArg (V c main_v127) (funext fun a => Fin.ext ?_)
    match a with
    | ⟨0, _⟩ => blk_simp; rw [i00]; rfl
    | ⟨1, _⟩ => blk_simp; rw [i01]; omega
    | ⟨2, _⟩ => blk_simp; rw [i02]; omega
  have hy : y = ix3 0 (y 1) (y 2) := (eq_ix3 y).trans (congrArg (fun a => ix3 a (y 1) (y 2)) (Fin.ext hy0))
  refine (congrArg (out1_1 (grid1.coords t) (iblk1 V c 0 t)) hy).trans
    ((out1_apply (grid1.coords t) (iblk1 V c 0 t) (y 2) (y 1)).trans ?_)
  rw [h0]
  show _ = chan (((win1_1.blk t).view.emb y) 0) (((win1_1.blk t).view.emb y) 2) _ (((win1_1.blk t).view.emb y) 1)
  rw [e0, e1, e2]

end Cert.Proof
-- ==== Proof.RefA.lean ====
/- The reference's per-Gaussian quantities, part one: rotation, covariance and view coordinates, each as the scalar
   formula of `Spec` on the Gaussian's numbers. -/
module

public import proofs.«01_k».proof.Proof.Ref
public import proofs.«01_k».proof.Proof.Spec
public import Idealize.ShloMosaic.Lib.Pointwise

@[expose] public section

set_option maxRecDepth 16384
set_option maxHeartbeats 2000000

noncomputable section

namespace Cert.Proof.R

open Idealize.ShloMosaic Idealize.ShloMosaic.TcCoe
open Idealize.SL Idealize.SL.Sem
open Cert.ReferenceIdeal Cert.ReferenceIdeal.Read

variable (x0 x1 : S100000x3.Idx → EReal) (x2 : S100000x4.Idx → EReal) (x3 : S100000.Idx → EReal)
  (x4 : S100000x16x3.Idx → EReal) (x5 : S4x4.Idx → EReal) (x6 : S3.Idx → EReal)

/-- Gaussian `n`'s input numbers. -/
def G (n : Fin 100000) : Fin 64 → EReal :=
  Spec.ein (fun k => x0 (ix2 n k)) (fun k => x1 (ix2 n k)) (fun k => x2 (ix2 n k)) (x3 (ix1 n)) (fun l k => x4 (ix3 n l k))

/-- The camera's numbers. -/
def C : Fin 15 → EReal := Spec.cam (fun i j => x5 (ix2 i j)) (fun k => x6 (ix1 k))

/-- The zero that starts a sum. -/
theorem zero_lit : Ideal.ofBits FTy.f32 0#32 = 0 := by
  have h : (0 : S_.Idx → EReal) = 0 := rfl
  have := congrFun (show (constant (F := Ideal) S_ .f32 0#32 : S_.Idx → EReal) = fun _ => (0 : EReal) by
    funext i; pointwise) (fun a => a.elim0)
  exact this

variable (n : Fin 100000)

/-- A component of the normalized quaternion. -/
theorem qr_at : val_main_v6 (F := Ideal) x2 (ix1 n) = Spec.qr (G x0 x1 x2 x3 x4 n) (C x5 x6) := by
  pointwise [val_main_v6, val_main_v5, val_main_v4, val_main_v3, val_main_v2, val_main_v1, val_main_cst, val_main_v0, val_main_call0_v2, val_main_call0_v1, val_main_call0_v0, val_main_call0_cst]
  simp only [Fin.sum_univ_four, zero_add, add_zero]
  rfl

/-- A component of the normalized quaternion. -/
theorem qx_at : val_main_v8 (F := Ideal) x2 (ix1 n) = Spec.qx (G x0 x1 x2 x3 x4 n) (C x5 x6) := by
  pointwise [val_main_v8, val_main_v7, val_main_v4, val_main_v3, val_main_v2, val_main_v1, val_main_cst, val_main_v0, val_main_call0_v2, val_main_call0_v1, val_main_call0_v0, val_main_call0_cst]
  simp only [Fin.sum_univ_four, zero_add, add_zero]
  rfl

/-- A component of the normalized quaternion. -/
theorem qy_at : val_main_v10 (F := Ideal) x2 (ix1 n) = Spec.qy (G x0 x1 x2 x3 x4 n) (C x5 x6) := by
  pointwise [val_main_v10, val_main_v9, val_main_v4, val_main_v3, val_main_v2, val_main_v1, val_main_cst, val_main_v0, val_main_call0_v2, val_main_call0_v1, val_main_call0_v0, val_main_call0_cst]
  simp only [Fin.sum_univ_four, zero_add, add_zero]
  rfl

/-- A component of the normalized quaternion. -/
theorem qz_at : val_main_v12 (F := Ideal) x2 (ix1 n) = Spec.qz (G x0 x1 x2 x3 x4 n) (C x5 x6) := by
  pointwise [val_main_v12, val_main_v11, val_main_v4, val_main_v3, val_main_v2, val_main_v1, val_main_cst, val_main_v0, val_main_call0_v2, val_main_call0_v1, val_main_call0_v0, val_main_call0_cst]
  simp only [Fin.sum_univ_four, zero_add, add_zero]
  rfl

/-- The rotation matrix. -/
theorem rot_at (i j : Fin 3) : val_main_v74 (F := Ideal) x2 (ix3 n i j) = ![![Spec.r00 (G x0 x1 x2 x3 x4 n) (C x5 x6), Spec.r01 (G x0 x1 x2 x3 x4 n) (C x5 x6), Spec.r02 (G x0 x1 x2 x3 x4 n) (C x5 x6)], ![Spec.r10 (G x0 x1 x2 x3 x4 n) (C x5 x6), Spec.r11 (G x0 x1 x2 x3 x4 n) (C x5 x6), Spec.r12 (G x0 x1 x2 x3 x4 n) (C x5 x6)], ![Spec.r20 (G x0 x1 x2 x3 x4 n) (C x5 x6), Spec.r21 (G x0 x1 x2 x3 x4 n) (C x5 x6), Spec.r22 (G x0 x1 x2 x3 x4 n) (C x5 x6)]] i j := by
  fin_cases i <;> fin_cases j <;> pointwise [val_main_v74, val_main_v73, val_main_v72, val_main_v63, val_main_v62, val_main_cst_11, val_main_v61, val_main_v60, val_main_cst_10, val_main_v59, val_main_v58, val_main_v57, val_main_v71, val_main_v56, val_main_v55, val_main_cst_9, val_main_v54, val_main_v53, val_main_v52, val_main_v70, val_main_v51, val_main_v50, val_main_cst_8, val_main_v49, val_main_v48, val_main_v47, val_main_v69, val_main_v46, val_main_v45, val_main_cst_7, val_main_v44, val_main_v43, val_main_v42, val_main_v68, val_main_v41, val_main_v40, val_main_cst_6, val_main_v39, val_main_v38, val_main_cst_5, val_main_v37, val_main_v36, val_main_v35, val_main_v67, val_main_v34, val_main_v33, val_main_cst_4, val_main_v32, val_main_v31, val_main_v30, val_main_v66, val_main_v29, val_main_v28, val_main_cst_3, val_main_v27, val_main_v26, val_main_v25, val_main_v65, val_main_v24, val_main_v23, val_main_cst_2, val_main_v22, val_main_v21, val_main_v20, val_main_v64, val_main_v19, val_main_v18, val_main_cst_1, val_main_v17, val_main_v16, val_main_cst_0, val_main_v15, val_main_v14, val_main_v13] <;>
    simp only [qr_at x0 x1 x2 x3 x4 x5 x6 n, qx_at x0 x1 x2 x3 x4 x5 x6 n, qy_at x0 x1 x2 x3 x4 x5 x6 n, qz_at x0 x1 x2 x3 x4 x5 x6 n] <;> rfl

/-- Rotation times scale. -/
theorem m_at (i j : Fin 3) : val_main_v77 (F := Ideal) x1 x2 (ix3 n i j) = ![![Spec.m00 (G x0 x1 x2 x3 x4 n) (C x5 x6), Spec.m01 (G x0 x1 x2 x3 x4 n) (C x5 x6), Spec.m02 (G x0 x1 x2 x3 x4 n) (C x5 x6)], ![Spec.m10 (G x0 x1 x2 x3 x4 n) (C x5 x6), Spec.m11 (G x0 x1 x2 x3 x4 n) (C x5 x6), Spec.m12 (G x0 x1 x2 x3 x4 n) (C x5 x6)], ![Spec.m20 (G x0 x1 x2 x3 x4 n) (C x5 x6), Spec.m21 (G x0 x1 x2 x3 x4 n) (C x5 x6), Spec.m22 (G x0 x1 x2 x3 x4 n) (C x5 x6)]] i j := by
  pointwise [val_main_v77, val_main_v76, val_main_v75]
  rw [rot_at x0 x1 x2 x3 x4 x5 x6 n]
  fin_cases i <;> fin_cases j <;> rfl

/-- The 3D covariance. -/
theorem cov_at (i j : Fin 3) : val_main_v79 (F := Ideal) x1 x2 (ix3 n i j) = ![![Spec.c00 (G x0 x1 x2 x3 x4 n) (C x5 x6), Spec.c01 (G x0 x1 x2 x3 x4 n) (C x5 x6), Spec.c02 (G x0 x1 x2 x3 x4 n) (C x5 x6)], ![Spec.c10 (G x0 x1 x2 x3 x4 n) (C x5 x6), Spec.c11 (G x0 x1 x2 x3 x4 n) (C x5 x6), Spec.c12 (G x0 x1 x2 x3 x4 n) (C x5 x6)], ![Spec.c20 (G x0 x1 x2 x3 x4 n) (C x5 x6), Spec.c21 (G x0 x1 x2 x3 x4 n) (C x5 x6), Spec.c22 (G x0 x1 x2 x3 x4 n) (C x5 x6)]] i j := by
  pointwise [val_main_v79, val_main_v78]
  simp only [m_at x0 x1 x2 x3 x4 x5 x6 n, Fin.sum_univ_three]
  fin_cases i <;> fin_cases j <;> rfl

/-- The mean in view coordinates. -/
theorem t_at (i : Fin 3) : val_main_v87 (F := Ideal) x0 x5 (ix2 n i) = ![Spec.tx (G x0 x1 x2 x3 x4 n) (C x5 x6), Spec.ty (G x0 x1 x2 x3 x4 n) (C x5 x6), Spec.tz (G x0 x1 x2 x3 x4 n) (C x5 x6)] i := by
  pointwise [val_main_v87, val_main_v86, val_main_v85, val_main_v84, val_main_v83, val_main_v82, val_main_v81, val_main_v80]
  simp only [Fin.sum_univ_three]
  fin_cases i <;> rfl

/-- A view coordinate. -/
theorem tx_at : val_main_v89 (F := Ideal) x0 x5 (ix1 n) = Spec.tx (G x0 x1 x2 x3 x4 n) (C x5 x6) := by
  pointwise [val_main_v89, val_main_v88]
  exact t_at x0 x1 x2 x3 x4 x5 x6 n 0

/-- A view coordinate. -/
theorem ty_at : val_main_v91 (F := Ideal) x0 x5 (ix1 n) = Spec.ty (G x0 x1 x2 x3 x4 n) (C x5 x6) := by
  pointwise [val_main_v91, val_main_v90]
  exact t_at x0 x1 x2 x3 x4 x5 x6 n 1

/-- A view coordinate. -/
theorem tz_at : val_main_v93 (F := Ideal) x0 x5 (ix1 n) = Spec.tz (G x0 x1 x2 x3 x4 n) (C x5 x6) := by
  pointwise [val_main_v93, val_main_v92]
  exact t_at x0 x1 x2 x3 x4 x5 x6 n 2

/-- The depth, bounded below. -/
theorem tzs_at : val_main_v97 (F := Ideal) x0 x5 (ix1 n) = Spec.tzs (G x0 x1 x2 x3 x4 n) (C x5 x6) := by
  pointwise [val_main_v97, val_main_v96, val_main_cst_13]
  rw [tz_at x0 x1 x2 x3 x4 x5 x6 n]
  rfl

/-- A coordinate of the projected mean. -/
theorem px_at : val_main_v102 (F := Ideal) x0 x5 (ix1 n) = Spec.px (G x0 x1 x2 x3 x4 n) (C x5 x6) := by
  pointwise [val_main_v102, val_main_v101, val_main_cst_15, val_main_v100, val_main_v99, val_main_v98, val_main_cst_14]
  simp only [tx_at x0 x1 x2 x3 x4 x5 x6 n, ty_at x0 x1 x2 x3 x4 x5 x6 n, tzs_at x0 x1 x2 x3 x4 x5 x6 n]
  rfl

/-- A coordinate of the projected mean. -/
theorem py_at : val_main_v107 (F := Ideal) x0 x5 (ix1 n) = Spec.py (G x0 x1 x2 x3 x4 n) (C x5 x6) := by
  pointwise [val_main_v107, val_main_v106, val_main_cst_17, val_main_v105, val_main_v104, val_main_v103, val_main_cst_16]
  simp only [tx_at x0 x1 x2 x3 x4 x5 x6 n, ty_at x0 x1 x2 x3 x4 x5 x6 n, tzs_at x0 x1 x2 x3 x4 x5 x6 n]
  rfl

end Cert.Proof.R
-- ==== Proof.RefB.lean ====
/- The reference's per-Gaussian quantities, part two: the projected covariance and the radius. -/
module

public import proofs.«01_k».proof.Proof.RefA
public import Idealize.ShloMosaic.Lib.Pointwise

@[expose] public section

set_option maxRecDepth 16384
set_option maxHeartbeats 2000000

noncomputable section

namespace Cert.Proof.R

open Idealize.ShloMosaic Idealize.ShloMosaic.TcCoe
open Idealize.SL Idealize.SL.Sem
open Cert.ReferenceIdeal Cert.ReferenceIdeal.Read

variable (x0 x1 : S100000x3.Idx → EReal) (x2 : S100000x4.Idx → EReal) (x3 : S100000.Idx → EReal)
  (x4 : S100000x16x3.Idx → EReal) (x5 : S4x4.Idx → EReal) (x6 : S3.Idx → EReal)

variable (n : Fin 100000)

/-- The Jacobian of the projection. -/
theorem jac_at (a : Fin 2) (j : Fin 3) : val_main_v132 (F := Ideal) x0 x5 (ix3 n a j) = ![![Spec.j00 (G x0 x1 x2 x3 x4 n) (C x5 x6), 0, Spec.j02 (G x0 x1 x2 x3 x4 n) (C x5 x6)], ![0, Spec.j00 (G x0 x1 x2 x3 x4 n) (C x5 x6), Spec.j12 (G x0 x1 x2 x3 x4 n) (C x5 x6)]] a j := by
  fin_cases a <;> fin_cases j <;> pointwise [val_main_v132, val_main_v131, val_main_v129, val_main_v128, val_main_v125, val_main_v124, val_main_v123, val_main_v122, val_main_cst_23, val_main_v127, val_main_v121, val_main_v120, val_main_cst_22, val_main_v126, val_main_v119, val_main_cst_21, val_main_v130, val_main_v118, val_main_v117, val_main_v114, val_main_v113, val_main_v112, val_main_v111, val_main_cst_20, val_main_v116, val_main_v110, val_main_cst_19, val_main_v115, val_main_v109, val_main_v108, val_main_cst_18] <;>
    (try simp only [tx_at x0 x1 x2 x3 x4 x5 x6 n, ty_at x0 x1 x2 x3 x4 x5 x6 n, tzs_at x0 x1 x2 x3 x4 x5 x6 n]) <;> rfl

/-- Jacobian times view rotation. -/
theorem jw_at (a : Fin 2) (j : Fin 3) : val_main_v133 (F := Ideal) x0 x5 (ix3 n a j) = ![![Spec.u0 (G x0 x1 x2 x3 x4 n) (C x5 x6), Spec.u1 (G x0 x1 x2 x3 x4 n) (C x5 x6), Spec.u2 (G x0 x1 x2 x3 x4 n) (C x5 x6)], ![Spec.v0 (G x0 x1 x2 x3 x4 n) (C x5 x6), Spec.v1 (G x0 x1 x2 x3 x4 n) (C x5 x6), Spec.v2 (G x0 x1 x2 x3 x4 n) (C x5 x6)]] a j := by
  pointwise [val_main_v133, val_main_v80]
  simp only [jac_at x0 x1 x2 x3 x4 x5 x6 n, Fin.sum_univ_three]
  fin_cases a
  · simp only [Fin.zero_eta, Matrix.cons_val, zero_mul, add_zero]
    fin_cases j <;> rfl
  · simp only [Fin.mk_one, Matrix.cons_val, zero_mul, zero_add]
    fin_cases j <;> rfl

/-- That times the 3D covariance. -/
theorem jwc_at (a : Fin 2) (j : Fin 3) : val_main_v134 (F := Ideal) x0 x1 x2 x5 (ix3 n a j) = ![![Spec.p00 (G x0 x1 x2 x3 x4 n) (C x5 x6), Spec.p01 (G x0 x1 x2 x3 x4 n) (C x5 x6), Spec.p02 (G x0 x1 x2 x3 x4 n) (C x5 x6)], ![Spec.p10 (G x0 x1 x2 x3 x4 n) (C x5 x6), Spec.p11 (G x0 x1 x2 x3 x4 n) (C x5 x6), Spec.p12 (G x0 x1 x2 x3 x4 n) (C x5 x6)]] a j := by
  pointwise [val_main_v134]
  simp only [jw_at x0 x1 x2 x3 x4 x5 x6 n, cov_at x0 x1 x2 x3 x4 x5 x6 n, Fin.sum_univ_three]
  fin_cases a <;> fin_cases j <;> rfl

/-- The truth value one, as a number. -/
theorem uito1 : FloatOps.uitofp (F := Ideal) .f32 1#1 = (1 : EReal) := by
  show (((1#1 : BitVec 1).toNat : ℝ) : EReal) = 1
  simp

/-- The truth value zero, as a number. -/
theorem uito0 : FloatOps.uitofp (F := Ideal) .f32 0#1 = (0 : EReal) := by
  show (((0#1 : BitVec 1).toNat : ℝ) : EReal) = 0
  simp

/-- The regularizing multiple of the identity. -/
theorem eye_at (a b : Fin 2) : val_main_v146 (F := Ideal) (ix3 n a b) = ![![Spec.lit 0x3E99999A#32, 0], ![0, Spec.lit 0x3E99999A#32]] a b := by
  fin_cases a <;> fin_cases b <;> pointwise [val_main_v146, val_main_v145, val_main_v144, val_main_v143, val_main_cst_24, val_main_v142, val_main_v141, val_main_v140, val_main_v139, val_main_c, val_main_v137, val_main_v138]
  · exact (congrArg (_ * ·) uito1).trans (mul_one _)
  · exact (congrArg (_ * ·) uito0).trans (mul_zero _)
  · exact (congrArg (_ * ·) uito0).trans (mul_zero _)
  · exact (congrArg (_ * ·) uito1).trans (mul_one _)

/-- The 2D covariance. -/
theorem cov2_at (a b : Fin 2) : val_main_v147 (F := Ideal) x0 x1 x2 x5 (ix3 n a b) = ![![Spec.ca (G x0 x1 x2 x3 x4 n) (C x5 x6), Spec.cb (G x0 x1 x2 x3 x4 n) (C x5 x6)], ![Spec.cc (G x0 x1 x2 x3 x4 n) (C x5 x6), Spec.cd (G x0 x1 x2 x3 x4 n) (C x5 x6)]] a b := by
  pointwise [val_main_v147, val_main_v136, val_main_v135]
  simp only [jw_at x0 x1 x2 x3 x4 x5 x6 n, jwc_at x0 x1 x2 x3 x4 x5 x6 n, eye_at n, Fin.sum_univ_three]
  fin_cases a <;> fin_cases b
  · rfl
  · exact add_zero _
  · exact add_zero _
  · rfl

/-- The radius. -/
theorem radius_at : val_main_v344 (F := Ideal) x0 x1 x2 x5 (ix1 n) = Spec.radius (G x0 x1 x2 x3 x4 n) (C x5 x6) := by
  pointwise [val_main_v344, val_main_v343, val_main_cst_56, val_main_v342, val_main_v341, val_main_v340, val_main_v338, val_main_v337, val_main_cst_55, val_main_v336, val_main_v335, val_main_v334, val_main_v333, val_main_v332, val_main_cst_53, val_main_v328, val_main_v327, val_main_v326, val_main_v325, val_main_v324, val_main_v323, val_main_v322, val_main_v321, val_main_v320, val_main_v319, val_main_v318, val_main_v331, val_main_v317, val_main_v316, val_main_v315, val_main_v314, val_main_v313, val_main_call3_v1, val_main_call3_v0, val_main_cst_54, val_main_v330, val_main_v329, val_main_cst_52, val_main_v339]
  simp only [id_eq]
  pointwise
  simp only [cov2_at x0 x1 x2 x3 x4 x5 x6 n, max_comm (Ideal.ofBits FTy.f32 0x2B8CBCCC#32)]
  rfl

end Cert.Proof.R
-- ==== Proof.RefScore.lean ====
/- The reference's scores: at every tile and Gaussian the score of the Gaussian's feature row. -/
module

public import proofs.«01_k».proof.Proof.RefB
public import proofs.«01_k».proof.Proof.Tile
public import Idealize.ShloMosaic.Lib.Pointwise

@[expose] public section

set_option maxRecDepth 16384
set_option maxHeartbeats 2000000

noncomputable section

namespace Cert.Proof.R

open Idealize.ShloMosaic Idealize.ShloMosaic.TcCoe
open Idealize.SL Idealize.SL.Sem
open Cert.ReferenceIdeal Cert.ReferenceIdeal.Read

variable (x0 x1 : S100000x3.Idx → EReal) (x2 : S100000x4.Idx → EReal) (x3 : S100000.Idx → EReal)
  (x4 : S100000x16x3.Idx → EReal) (x5 : S4x4.Idx → EReal) (x6 : S3.Idx → EReal)

variable (n : Fin 100000)

/-- One half as a bit pattern. -/
theorem half : Spec.lit 0x3F000000#32 = ((1 / 2 : ℝ) : EReal) := by
  simp [Spec.lit, Ideal.ofBits, Ideal.ieee, -EReal.coe_mul, -EReal.coe_neg]
  norm_num

/-- One half is below one. -/
theorem half_lt_one : Spec.lit 0x3F000000#32 < 1 := by
  rw [half, ← EReal.coe_one, EReal.coe_lt_coe_iff]; norm_num

/-- One half is not below zero. -/
theorem not_half_lt_zero : ¬ Spec.lit 0x3F000000#32 < 0 := by
  rw [half, ← EReal.coe_zero, EReal.coe_lt_coe_iff]; norm_num

/-- A Gaussian counts as in front just when its depth exceeds the bound. -/
theorem front_iff (e : Fin 64 → EReal) (w : Fin 15 → EReal) :
    Spec.lit 0x3F000000#32 < Spec.feat e w 11 ↔ Spec.front e w := by
  classical
  have h : Spec.feat e w 11 = if Spec.front e w then 1 else 0 := by
    unfold Spec.feat; simp only [Matrix.cons_val]
  rw [h]
  by_cases hf : Spec.front e w
  · simp only [hf, if_true, half_lt_one]
  · simp only [hf, if_false, not_half_lt_zero]

/-- The score of Gaussian `n` at tile `t`. -/
theorem score_at (t : Fin 256) : val_main_v394 (F := Ideal) x0 x1 x2 x5 (ix2 t n) = score (Spec.feat (G x0 x1 x2 x3 x4 n) (C x5 x6)) t := by
  classical
  simp only [val_main_v394, val_main_v391, val_main_v390, val_main_v389, val_main_v95, val_main_v94, val_main_cst_12, val_main_v388, val_main_v387, val_main_v386, val_main_v385, val_main_v383, val_main_v382, val_main_cst_62, val_main_v381, val_main_v353, val_main_v352, val_main_v351, val_main_c_60, val_main_v384, val_main_v380, val_main_v379, val_main_v378, val_main_v377, val_main_v376, val_main_v374, val_main_v375, val_main_v373, val_main_v372, val_main_v371, val_main_v370, val_main_v369, val_main_v368, val_main_v366, val_main_v365, val_main_cst_61, val_main_v364, val_main_v350, val_main_v349, val_main_v348, val_main_c_59, val_main_v367, val_main_v363, val_main_v362, val_main_v361, val_main_v360, val_main_v359, val_main_v357, val_main_v358, val_main_v356, val_main_v355, val_main_v354, val_main_call6_v2, val_main_call6_v0, val_main_cst_63, val_main_call6_v1, val_main_v393, val_main_v392]
  have hs := @signi_sgn
  simp only [val_main_v346, val_main_v347, val_main_v346, val_main_call4_v2, val_main_v345, val_main_call4_v1, val_main_call4_v0, val_main_c_57, val_main_call4_v13, val_main_call4_v12, val_main_call4_c_0, val_main_call4_v11, val_main_call4_v6, val_main_call4_v5, val_main_call4_v4, val_main_call4_v3, val_main_call4_v10, val_main_call4_v9, val_main_call4_c, val_main_call4_v8, val_main_call4_v7, val_main_v347, val_main_call5_v4, val_main_v345, val_main_call5_v3, val_main_call5_v2, val_main_call5_v1, val_main_call5_v0, val_main_c_58, val_main_call5_c, val_main_call5_c_0, val_main_call5_v14, val_main_call5_v13, val_main_call5_v12, val_main_call5_v6, val_main_call5_v5, val_main_call5_c_1, val_main_call5_v11, val_main_call5_v8, val_main_call5_v7, val_main_call5_c_2, val_main_call5_v10, val_main_call5_v9, val_main_call5_c_3, hs]
  pointwise
  simp only [id_eq]
  pointwise
  simp only [andi_ofBool, select_ofBool, Bool.and_eq_true, decide_eq_true_eq, floor_word, rem_word,
    tz_at x0 x1 x2 x3 x4 x5 x6 n, px_at x0 x1 x2 x3 x4 x5 x6 n, py_at x0 x1 x2 x3 x4 x5 x6 n, radius_at x0 x1 x2 x3 x4 x5 x6 n]
  unfold score
  refine if_congr (Iff.trans ?_ (and_congr_right' (front_iff _ _).symm)) rfl rfl
  exact ⟨fun h => ⟨h.1, h.2, half_lt_one⟩, fun h => ⟨h.1, h.2.1⟩⟩

end Cert.Proof.R
-- ==== Proof.KOut.lean ====
/- The kernel's features and result: every column of the feature array, and the image as the blend of the packed slots. -/
module

public import proofs.«01_k».proof.Proof.HostIn
public import proofs.«01_k».proof.Proof.Pack
public import proofs.«01_k».proof.Proof.Region1
public import proofs.«01_k».proof.Proof.RefScore

@[expose] public section

set_option maxRecDepth 16384
set_option maxHeartbeats 4000000

noncomputable section

namespace Cert.Proof

open Idealize.ShloMosaic Idealize.ShloMosaic.TcCoe
open Idealize.SL Idealize.SL.Sem
open Cert.KernelIdeal Cert.KernelIdeal.Gen

variable (m : (ℓ : Loc nD τ sig) → Buf (Elt Ideal) ℓ) (ρ : Dev nD → PrngReg) (c : Dev nD)

/-- The feature array after the feature kernel. -/
theorem feat_arr (r : Fin 16) (n : Fin 100352) : (W14 m ρ c (Proc.devRef .tc main_v25) : S16x100352.Idx → EReal) (ix2 r n)
    = Spec.feat (fun r => (W13 m ρ c (Proc.devRef .tc main_v14) : S64x100352.Idx → EReal) (ix2 r n))
        (Wv (W13 m ρ c (Proc.devRef .tc main_v24) : S8x128.Idx → EReal)) r :=
  congrFun ((W14_arr m ρ c 2).trans (arr0 (V13 m ρ) c)) (ix2 r n)

/-- The features of a splat. -/
theorem feat_in (n : Fin 100000) (r : Fin 16) :
    (W14 m ρ c (Proc.devRef .tc main_v25) : S16x100352.Idx → EReal) (ix2 r ⟨n.val, by have := n.isLt; omega⟩)
      = Spec.feat (R.G (W0 m ρ c (Proc.devRef .tc main_arg0) : S100000x3.Idx → EReal) (W0 m ρ c (Proc.devRef .tc main_arg1) : S100000x3.Idx → EReal)
          (W0 m ρ c (Proc.devRef .tc main_arg2) : S100000x4.Idx → EReal) (W0 m ρ c (Proc.devRef .tc main_arg3) : S100000.Idx → EReal)
          (W0 m ρ c (Proc.devRef .tc main_arg4) : S100000x16x3.Idx → EReal) n)
        (R.C (W0 m ρ c (Proc.devRef .tc main_arg5) : S4x4.Idx → EReal) (W0 m ρ c (Proc.devRef .tc main_arg6) : S3.Idx → EReal)) r := by
  rw [feat_arr, in24, show (fun r => (W13 m ρ c (Proc.devRef .tc main_v14) : S64x100352.Idx → EReal) (ix2 r ⟨n.val, by have := n.isLt; omega⟩)) = _ from
    funext fun r => in14 m ρ c r n]
  unfold R.G R.C
  exact rfl

/-- A column past the splats is never in front. -/
theorem feat_pad (n : Fin 100352) (hn : ¬ n.val < 100000) (t : Fin 256) :
    score (fun r => (W14 m ρ c (Proc.devRef .tc main_v25) : S16x100352.Idx → EReal) (ix2 r n)) t = Spec.lit 0xD01502F9 := by
  classical
  unfold score
  refine if_neg fun h => ?_
  have h2 := (R.front_iff _ _).mp (lt_of_lt_of_eq h.2 (feat_arr m ρ c 11 n))
  unfold Spec.front at h2
  simp only [in14_pad m ρ c n hn] at h2
  exact absurd h2 (by simp [R.not_half_lt_zero])

/-- The feature array is still there when the slots are packed. -/
theorem v25_kept : W20 m ρ c (Proc.devRef .tc main_v25) = W14 m ρ c (Proc.devRef .tc main_v25) := by
  rw [W20_of m ρ c _ (by decide), W19_of m ρ c _ (by decide), W18_of m ρ c _ (by decide), W17_of m ρ c _ (by decide),
    W16_of m ρ c _ (by decide), W15_of m ρ c _ (by decide)]

/-- The last host code turns the tiles into an image. -/
theorem tail_k (V : Valuation τ sig (Elt Ideal)) (a b : Fin 256) (l : Fin 3) :
    (StableHlo.after hostOps2 V (Proc.devRef .tc main_v131) : S256x256x3.Idx → EReal) (ix3 a b l)
      = (V (Proc.devRef .tc main_v128) : S256x3x256.Idx → EReal) (ix3 ⟨a.val / 16 * 16 + b.val / 16, by omega⟩ l ⟨a.val % 16 * 16 + b.val % 16, by omega⟩) := by
  after_reads_simp
  pointwise

/-- The kernel's image. -/
theorem image_k (a b : Fin 256) (l : Fin 3) :
    (W24 m ρ c (Proc.devRef .tc main_v131) : S256x256x3.Idx → EReal) (ix3 a b l)
      = chan ⟨a.val / 16 * 16 + b.val / 16, by omega⟩ ⟨a.val % 16 * 16 + b.val % 16, by omega⟩
          (fun k j => (W22 m ρ c (Proc.devRef .tc main_v127) : S256x64x16.Idx → EReal) (ix3 ⟨a.val / 16 * 16 + b.val / 16, by omega⟩ k j)) l :=
  (tail_k (W23 m ρ c) a b l).trans (congrFun ((W23_arr m ρ c 1).trans (arr1 (V22 m ρ) c)) _)

end Cert.Proof
-- ==== Proof.RefC.lean ====
/- The reference's per-Gaussian quantities, part three: the color. -/
module

public import proofs.«01_k».proof.Proof.RefA
public import Idealize.ShloMosaic.Lib.Pointwise

@[expose] public section

set_option maxRecDepth 16384
set_option maxHeartbeats 2000000

noncomputable section

namespace Cert.Proof.R

open Idealize.ShloMosaic Idealize.ShloMosaic.TcCoe
open Idealize.SL Idealize.SL.Sem
open Cert.ReferenceIdeal Cert.ReferenceIdeal.Read

variable (x0 x1 : S100000x3.Idx → EReal) (x2 : S100000x4.Idx → EReal) (x3 : S100000.Idx → EReal)
  (x4 : S100000x16x3.Idx → EReal) (x5 : S4x4.Idx → EReal) (x6 : S3.Idx → EReal)

variable (n : Fin 100000)

/-- A bit pattern with the sign bit set is minus the pattern without. -/
theorem neg_c1 : Spec.lit 0xBEFA2A1C#32 = -Spec.lit 0x3EFA2A1C#32 := by
  simp [Spec.lit, Ideal.ofBits, Ideal.ieee, -EReal.coe_mul, -EReal.coe_neg]
  exact EReal.coe_neg _

/-- Subtracting a term is adding it with its constant negated. -/
theorem sub_c1 (a y s : EReal) : a - Ideal.ofBits .f32 0x3EFA2A1C#32 * y * s = a + Spec.lit 0xBEFA2A1C#32 * y * s := by
  rw [neg_c1, neg_mul, neg_mul, sub_eq_add_neg]

/-- The view direction. -/
theorem dir_at (i : Fin 3) : val_main_v155 (F := Ideal) x0 x6 (ix2 n i) = ![Spec.vx (G x0 x1 x2 x3 x4 n) (C x5 x6), Spec.vy (G x0 x1 x2 x3 x4 n) (C x5 x6), Spec.vz (G x0 x1 x2 x3 x4 n) (C x5 x6)] i := by
  pointwise [val_main_v155, val_main_v154, val_main_v153, val_main_v152, val_main_cst_25, val_main_v151, val_main_call1_v2, val_main_call1_v1, val_main_call1_v0, val_main_v150, val_main_v149, val_main_v148, val_main_call1_cst]
  simp only [Fin.sum_univ_three, zero_add, add_zero]
  fin_cases i <;> rfl

/-- The color. -/
theorem color_at (l : Fin 3) : val_main_v312 (F := Ideal) x0 x4 x6 (ix2 n l) = ![Spec.col0 (G x0 x1 x2 x3 x4 n) (C x5 x6), Spec.col1 (G x0 x1 x2 x3 x4 n) (C x5 x6), Spec.col2 (G x0 x1 x2 x3 x4 n) (C x5 x6)] l := by
  pointwise [val_main_v312, val_main_v311, val_main_v310, val_main_cst_50, val_main_v309, val_main_v308, val_main_v307, val_main_v304, val_main_v303, val_main_v302, val_main_v301, val_main_cst_49, val_main_v186, val_main_v158, val_main_v185, val_main_v157, val_main_v300, val_main_v299, val_main_cst_48, val_main_v306, val_main_v305, val_main_v156, val_main_v298, val_main_v297, val_main_v296, val_main_v293, val_main_v292, val_main_v291, val_main_v290, val_main_cst_47, val_main_v159, val_main_v295, val_main_v294, val_main_v289, val_main_v288, val_main_v287, val_main_v284, val_main_v283, val_main_v282, val_main_v281, val_main_v280, val_main_cst_46, val_main_v187, val_main_v279, val_main_v278, val_main_cst_45, val_main_v286, val_main_v285, val_main_v277, val_main_v276, val_main_v275, val_main_v272, val_main_v271, val_main_v270, val_main_v269, val_main_cst_44, val_main_v268, val_main_v267, val_main_v266, val_main_cst_43, val_main_v265, val_main_v264, val_main_cst_42, val_main_v263, val_main_v262, val_main_cst_41, val_main_v274, val_main_v273, val_main_v261, val_main_v260, val_main_v259, val_main_v256, val_main_v255, val_main_v254, val_main_v253, val_main_v252, val_main_cst_40, val_main_v251, val_main_v250, val_main_cst_39, val_main_v258, val_main_v257, val_main_v249, val_main_v248, val_main_v247, val_main_v244, val_main_v243, val_main_v242, val_main_cst_38, val_main_v188, val_main_v246, val_main_v245, val_main_v241, val_main_v240, val_main_v239, val_main_v236, val_main_v235, val_main_v234, val_main_v233, val_main_cst_37, val_main_v232, val_main_v231, val_main_cst_36, val_main_v238, val_main_v237, val_main_v230, val_main_v229, val_main_v228, val_main_v225, val_main_v224, val_main_cst_35, val_main_v223, val_main_v227, val_main_v226, val_main_v222, val_main_v221, val_main_v220, val_main_v217, val_main_v216, val_main_cst_34, val_main_v190, val_main_v219, val_main_v218, val_main_v215, val_main_v214, val_main_v213, val_main_v210, val_main_v209, val_main_cst_33, val_main_v208, val_main_v207, val_main_v206, val_main_v205, val_main_cst_32, val_main_v212, val_main_v211, val_main_v204, val_main_v203, val_main_v202, val_main_v199, val_main_v198, val_main_cst_31, val_main_v189, val_main_v201, val_main_v200, val_main_v197, val_main_v196, val_main_v195, val_main_v192, val_main_v191, val_main_cst_30, val_main_v194, val_main_v193, val_main_v184, val_main_v183, val_main_v182, val_main_v179, val_main_v178, val_main_cst_29, val_main_v181, val_main_v180, val_main_v177, val_main_v176, val_main_v175, val_main_v172, val_main_v171, val_main_cst_28, val_main_v174, val_main_v173, val_main_v170, val_main_v169, val_main_v168, val_main_v165, val_main_v164, val_main_cst_27, val_main_v167, val_main_v166, val_main_v163, val_main_v162, val_main_cst_26, val_main_v161, val_main_v160, val_main_call2_v1, val_main_call2_v0, val_main_cst_51]
  simp only [id_eq]
  pointwise
  simp only [dir_at x0 x1 x2 x3 x4 x5 x6 n, sub_c1]
  refine (max_comm _ _).trans ?_
  fin_cases l <;> rfl

end Cert.Proof.R
-- ==== Proof.RefSlots.lean ====
/- The reference's slots: the splat that each tile's slot holds and that splat's numbers. -/
module

public import proofs.«01_k».proof.Proof.RefScore
public import proofs.«01_k».proof.Proof.RefC
public import proofs.«01_k».proof.Proof.TopK
public import proofs.«01_k».proof.Proof.Gather
public import proofs.«01_k».proof.Proof.Blend1
public import Idealize.ShloMosaic.Lib.Routing.OpsPair
public import Idealize.ShloMosaic.Lib.Pointwise

@[expose] public section

set_option maxRecDepth 16384
set_option maxHeartbeats 4000000

noncomputable section

namespace Cert.Proof.R

open Idealize.ShloMosaic Idealize.ShloMosaic.TcCoe
open Idealize.SL Idealize.SL.Sem
open Cert.ReferenceIdeal Cert.ReferenceIdeal.Read

variable (x0 x1 : S100000x3.Idx → EReal) (x2 : S100000x4.Idx → EReal) (x3 : S100000.Idx → EReal)
  (x4 : S100000x16x3.Idx → EReal) (x5 : S4x4.Idx → EReal) (x6 : S3.Idx → EReal)

variable (t : Fin 256) (k : Fin 64)

/-- The splat in slot `k` of tile `t`. -/
def pickR : Fin 100000 := sel (fun n => val_main_v394 (F := Ideal) x0 x1 x2 x5 (ix2 t n)) (k.castLE (by decide))

/-- The number of that splat. -/
theorem index_at : val_main_indices (F := Ideal) x0 x1 x2 x5 (ix2 t k) = BitVec.ofNat 32 (pickR x0 x1 x2 x5 t k).val :=
  topK_index (by decide) _ _ t k

/-- Its score. -/
theorem value_at : val_main_values (F := Ideal) x0 x1 x2 x5 (ix2 t k) = val_main_v394 (F := Ideal) x0 x1 x2 x5 (ix2 t (pickR x0 x1 x2 x5 t k)) :=
  topK_value (by decide) _ _ t k

/-- A splat's number is not negative. -/
theorem wrap_at (a : BitVec 32) : Scalar.select (IntOp.cmpi .slt (BitVec.ofNat 32 (pickR x0 x1 x2 x5 t k).val) 0#32) a
    (BitVec.ofNat 32 (pickR x0 x1 x2 x5 t k).val) = BitVec.ofNat 32 (pickR x0 x1 x2 x5 t k).val :=
  Routing.wrap_of_lt _ _ (by
    have := (pickR x0 x1 x2 x5 t k).isLt
    show (BitVec.ofNat 32 (pickR x0 x1 x2 x5 t k).val).toNat < 2 ^ 31
    rw [BitVec.toNat_ofNat, Nat.mod_eq_of_lt (by omega)]
    omega)

/-- The number that the first gather reads. -/
theorem word_v403 : val_main_v403 (F := Ideal) x0 x1 x2 x5 (ix3 t k 0) = BitVec.ofNat 32 (pickR x0 x1 x2 x5 t k).val := by
  pointwise [val_main_v403, val_main_v402, val_main_v401, val_main_v400, val_main_c_66, val_main_v399, val_main_v398, val_main_c_65]
  simp only [index_at]
  exact wrap_at x0 x1 x2 x5 t k _

/-- The number that the second gather reads. -/
theorem word_v410 : val_main_v410 (F := Ideal) x0 x1 x2 x5 (ix3 t k 0) = BitVec.ofNat 32 (pickR x0 x1 x2 x5 t k).val := by
  pointwise [val_main_v410, val_main_v409, val_main_v408, val_main_v407, val_main_c_68, val_main_v406, val_main_v405, val_main_c_67]
  simp only [index_at]
  exact wrap_at x0 x1 x2 x5 t k _

/-- The number that the third gather reads. -/
theorem word_v417 : val_main_v417 (F := Ideal) x0 x1 x2 x5 (ix3 t k 0) = BitVec.ofNat 32 (pickR x0 x1 x2 x5 t k).val := by
  pointwise [val_main_v417, val_main_v416, val_main_v415, val_main_v414, val_main_c_70, val_main_v413, val_main_v412, val_main_c_69]
  simp only [index_at]
  exact wrap_at x0 x1 x2 x5 t k _

/-- The number that the fourth gather reads. -/
theorem word_v424 : val_main_v424 (F := Ideal) x0 x1 x2 x5 (ix3 t k 0) = BitVec.ofNat 32 (pickR x0 x1 x2 x5 t k).val := by
  pointwise [val_main_v424, val_main_v423, val_main_v422, val_main_v421, val_main_c_72, val_main_v420, val_main_v419, val_main_c_71]
  simp only [index_at]
  exact wrap_at x0 x1 x2 x5 t k _

/-- The number that the fifth gather reads. -/
theorem word_v431 : val_main_v431 (F := Ideal) x0 x1 x2 x5 (ix3 t k 0) = BitVec.ofNat 32 (pickR x0 x1 x2 x5 t k).val := by
  pointwise [val_main_v431, val_main_v430, val_main_v429, val_main_v428, val_main_c_74, val_main_v427, val_main_v426, val_main_c_73]
  simp only [index_at]
  exact wrap_at x0 x1 x2 x5 t k _

/-- A slot's numbers, from the splat's features `f` and the number `v` that says whether the slot is taken. -/
def row (f : Fin 16 → EReal) (v : EReal) : Fin 16 → EReal :=
  ![f 0, f 1, f 4, f 5, f 6, f 7, v, 0, f 8, f 9, f 10, 0, 0, 0, 0, 0]

/-- The splat's numbers as the reference's blending uses them. -/
def slot (t : Fin 256) (k : Fin 64) : Fin 16 → EReal :=
  row (Spec.feat (G x0 x1 x2 x3 x4 (pickR x0 x1 x2 x5 t k)) (C x5 x6))
    (FloatOps.uitofp (F := Ideal) .f32 (BitVec.ofBool (decide (Spec.lit 0xCE6E6B28#32 < val_main_v394 (F := Ideal) x0 x1 x2 x5 (ix2 t (pickR x0 x1 x2 x5 t k))))))

/-- Its horizontal position. -/
theorem v404_at : val_main_v404 (F := Ideal) x0 x1 x2 x5 (ix2 t k) = slot x0 x1 x2 x3 x4 x5 x6 t k 0 := by
  unfold val_main_v404
  rw [gather_one _ _ t k (pickR x0 x1 x2 x5 t k) (word_v403 x0 x1 x2 x5 t k)]
  exact px_at x0 x1 x2 x3 x4 x5 x6 (pickR x0 x1 x2 x5 t k)

/-- Its vertical position. -/
theorem v411_at : val_main_v411 (F := Ideal) x0 x1 x2 x5 (ix2 t k) = slot x0 x1 x2 x3 x4 x5 x6 t k 1 := by
  unfold val_main_v411
  rw [gather_one _ _ t k (pickR x0 x1 x2 x5 t k) (word_v410 x0 x1 x2 x5 t k)]
  exact py_at x0 x1 x2 x3 x4 x5 x6 (pickR x0 x1 x2 x5 t k)

/-- Its covariance. -/
theorem v418_at (l o : Fin 2) : val_main_v418 (F := Ideal) x0 x1 x2 x5 (ix4 t k l o) = ![![Spec.ca (G x0 x1 x2 x3 x4 (pickR x0 x1 x2 x5 t k)) (C x5 x6), Spec.cb (G x0 x1 x2 x3 x4 (pickR x0 x1 x2 x5 t k)) (C x5 x6)], ![Spec.cc (G x0 x1 x2 x3 x4 (pickR x0 x1 x2 x5 t k)) (C x5 x6), Spec.cd (G x0 x1 x2 x3 x4 (pickR x0 x1 x2 x5 t k)) (C x5 x6)]] l o := by
  unfold val_main_v418
  rw [gather_four _ _ t k l o (pickR x0 x1 x2 x5 t k) (word_v417 x0 x1 x2 x5 t k)]
  exact cov2_at x0 x1 x2 x3 x4 x5 x6 (pickR x0 x1 x2 x5 t k) l o

/-- Its opacity. -/
theorem v425_at : val_main_v425 (F := Ideal) x0 x1 x2 x3 x5 (ix2 t k) = slot x0 x1 x2 x3 x4 x5 x6 t k 5 := by
  unfold val_main_v425
  rw [gather_one _ _ t k (pickR x0 x1 x2 x5 t k) (word_v424 x0 x1 x2 x5 t k)]
  rfl

/-- Its color. -/
theorem v432_at (l : Fin 3) : val_main_v432 (F := Ideal) x0 x1 x2 x4 x5 x6 (ix3 t k l) = slot x0 x1 x2 x3 x4 x5 x6 t k ⟨8 + l.val, by have := l.isLt; omega⟩ := by
  unfold val_main_v432
  rw [gather_three _ _ t k l (pickR x0 x1 x2 x5 t k) (word_v431 x0 x1 x2 x5 t k)]
  rw [color_at x0 x1 x2 x3 x4 x5 x6 (pickR x0 x1 x2 x5 t k) l]
  fin_cases l <;> rfl

/-- Whether the slot is taken. -/
theorem v397_at : val_main_v397 (F := Ideal) x0 x1 x2 x5 (ix2 t k) = slot x0 x1 x2 x3 x4 x5 x6 t k 6 := by
  pointwise [val_main_v397, val_main_v396, val_main_v395, val_main_cst_64]
  rw [value_at]
  rfl

/-- An entry of the covariance. -/
theorem v434_at : val_main_v434 (F := Ideal) x0 x1 x2 x5 (ix2 t k) = Spec.ca (G x0 x1 x2 x3 x4 (pickR x0 x1 x2 x5 t k)) (C x5 x6) := by
  pointwise [val_main_v434, val_main_v433]
  exact v418_at x0 x1 x2 x3 x4 x5 x6 t k 0 0

/-- An entry of the covariance. -/
theorem v436_at : val_main_v436 (F := Ideal) x0 x1 x2 x5 (ix2 t k) = Spec.cb (G x0 x1 x2 x3 x4 (pickR x0 x1 x2 x5 t k)) (C x5 x6) := by
  pointwise [val_main_v436, val_main_v435]
  exact v418_at x0 x1 x2 x3 x4 x5 x6 t k 0 1

/-- An entry of the covariance. -/
theorem v438_at : val_main_v438 (F := Ideal) x0 x1 x2 x5 (ix2 t k) = Spec.cc (G x0 x1 x2 x3 x4 (pickR x0 x1 x2 x5 t k)) (C x5 x6) := by
  pointwise [val_main_v438, val_main_v437]
  exact v418_at x0 x1 x2 x3 x4 x5 x6 t k 1 0

/-- An entry of the covariance. -/
theorem v440_at : val_main_v440 (F := Ideal) x0 x1 x2 x5 (ix2 t k) = Spec.cd (G x0 x1 x2 x3 x4 (pickR x0 x1 x2 x5 t k)) (C x5 x6) := by
  pointwise [val_main_v440, val_main_v439]
  exact v418_at x0 x1 x2 x3 x4 x5 x6 t k 1 1

/-- An entry of the inverse. -/
theorem v444_at : val_main_v444 (F := Ideal) x0 x1 x2 x5 (ix2 t k) = slot x0 x1 x2 x3 x4 x5 x6 t k 2 := by
  pointwise [val_main_v444, val_main_v443, val_main_v442, val_main_v441]
  simp only [v434_at x0 x1 x2 x3 x4 x5 x6 t k, v436_at x0 x1 x2 x3 x4 x5 x6 t k, v438_at x0 x1 x2 x3 x4 x5 x6 t k, v440_at x0 x1 x2 x3 x4 x5 x6 t k]
  rfl

/-- An entry of the inverse. -/
theorem v487_at : val_main_v487 (F := Ideal) x0 x1 x2 x5 (ix2 t k) = slot x0 x1 x2 x3 x4 x5 x6 t k 3 := by
  pointwise [val_main_v487, val_main_v448, val_main_v447, val_main_v443, val_main_v442, val_main_v441, val_main_v446, val_main_v445]
  simp only [v434_at x0 x1 x2 x3 x4 x5 x6 t k, v436_at x0 x1 x2 x3 x4 x5 x6 t k, v438_at x0 x1 x2 x3 x4 x5 x6 t k, v440_at x0 x1 x2 x3 x4 x5 x6 t k]
  rfl

/-- An entry of the inverse. -/
theorem v449_at : val_main_v449 (F := Ideal) x0 x1 x2 x5 (ix2 t k) = slot x0 x1 x2 x3 x4 x5 x6 t k 4 := by
  pointwise [val_main_v449, val_main_v443, val_main_v442, val_main_v441]
  simp only [v434_at x0 x1 x2 x3 x4 x5 x6 t k, v436_at x0 x1 x2 x3 x4 x5 x6 t k, v438_at x0 x1 x2 x3 x4 x5 x6 t k, v440_at x0 x1 x2 x3 x4 x5 x6 t k]
  rfl

end Cert.Proof.R
-- ==== Proof.RefBlend.lean ====
/- The reference's blending: coverage, the product over the earlier slots, the sum over the slots and the image. -/
module

public import proofs.«01_k».proof.Proof.RefSlots
public import Idealize.ShloMosaic.Lib.Pointwise

@[expose] public section

set_option maxRecDepth 16384
set_option maxHeartbeats 4000000

noncomputable section

namespace Cert.Proof.R

open Idealize.ShloMosaic Idealize.ShloMosaic.TcCoe
open Idealize.SL Idealize.SL.Sem
open Cert.ReferenceIdeal Cert.ReferenceIdeal.Read

variable (x0 x1 : S100000x3.Idx → EReal) (x2 : S100000x4.Idx → EReal) (x3 : S100000.Idx → EReal)
  (x4 : S100000x16x3.Idx → EReal) (x5 : S4x4.Idx → EReal) (x6 : S3.Idx → EReal)

variable (t : Fin 256) (k : Fin 64) (i j : Fin 16)

/-- The left edge of a tile. -/
theorem left_at : val_main_v350 (F := Ideal) (ix1 t) = left t := by
  simp only [val_main_v350, val_main_v349, val_main_v348, val_main_c_59]
  have hs := @signi_sgn
  simp only [val_main_v346, val_main_call4_v2, val_main_v345, val_main_call4_v1, val_main_call4_v0, val_main_c_57, val_main_call4_v13, val_main_call4_v12, val_main_call4_c_0, val_main_call4_v11, val_main_call4_v6, val_main_call4_v5, val_main_call4_v4, val_main_call4_v3, val_main_call4_v10, val_main_call4_v9, val_main_call4_c, val_main_call4_v8, val_main_call4_v7, hs]
  pointwise
  simp only [id_eq]
  pointwise
  simp only [andi_ofBool, select_ofBool, floor_word, rem_word]
  exact rfl

/-- The top edge of a tile. -/
theorem top_at : val_main_v353 (F := Ideal) (ix1 t) = top t := by
  simp only [val_main_v353, val_main_v352, val_main_v351, val_main_c_60]
  have hs := @signi_sgn
  simp only [val_main_v347, val_main_call5_v4, val_main_v345, val_main_call5_v3, val_main_call5_v2, val_main_call5_v1, val_main_call5_v0, val_main_c_58, val_main_call5_c, val_main_call5_c_0, val_main_call5_v14, val_main_call5_v13, val_main_call5_v12, val_main_call5_v6, val_main_call5_v5, val_main_call5_c_1, val_main_call5_v11, val_main_call5_v8, val_main_call5_v7, val_main_call5_c_2, val_main_call5_v10, val_main_call5_v9, val_main_call5_c_3, hs]
  pointwise
  simp only [id_eq]
  pointwise
  simp only [andi_ofBool, select_ofBool, floor_word, rem_word]
  exact rfl

/-- The horizontal place of a pixel. -/
theorem x_at : val_main_v457 (F := Ideal) (ix2 t i) = left t + lane i.val + Spec.lit 0x3F000000#32 := by
  pointwise [val_main_v457, val_main_v456, val_main_cst_75, val_main_v455, val_main_v454, val_main_v452, val_main_v451, val_main_v453, val_main_v450]
  rw [left_at]
  rfl

/-- The vertical place of a pixel. -/
theorem y_at : val_main_v465 (F := Ideal) (ix2 t i) = top t + lane i.val + Spec.lit 0x3F000000#32 := by
  pointwise [val_main_v465, val_main_v464, val_main_cst_76, val_main_v463, val_main_v462, val_main_v460, val_main_v459, val_main_v461, val_main_v458]
  rw [top_at]
  rfl

/-- The coverage of slot `k` at a pixel. -/
theorem cover_at : val_main_v507 (F := Ideal) x0 x1 x2 x3 x5 (ix4 t i j k) = alpha (left t + lane i.val + Spec.lit 0x3F000000#32) (top t + lane j.val + Spec.lit 0x3F000000#32) (slot x0 x1 x2 x3 x4 x5 x6 t k) := by
  pointwise [val_main_v507, val_main_v506, val_main_v505, val_main_v504, val_main_v503, val_main_call7_v4, val_main_call7_v3, val_main_cst_80, val_main_call7_v2, val_main_v502, val_main_v501, val_main_v500, val_main_v499, val_main_v498, val_main_v497, val_main_cst_78, val_main_v496, val_main_v495, val_main_cst_77, val_main_v494, val_main_v493, val_main_v492, val_main_v475, val_main_v474, val_main_v472, val_main_v473, val_main_v471, val_main_v491, val_main_v490, val_main_v489, val_main_v488, val_main_v470, val_main_v469, val_main_v467, val_main_v468, val_main_v466, val_main_v486, val_main_v485, val_main_v483, val_main_v482, val_main_v481, val_main_v480, val_main_v484, val_main_v479, val_main_v478, val_main_v477, val_main_v476, val_main_call7_v1, val_main_call7_v0, val_main_cst_79]
  simp only [id_eq]
  pointwise
  simp only [x_at, y_at, zero_lit, v404_at x0 x1 x2 x3 x4 x5 x6 t k, v411_at x0 x1 x2 x3 x4 x5 x6 t k, v444_at x0 x1 x2 x3 x4 x5 x6 t k, v449_at x0 x1 x2 x3 x4 x5 x6 t k, v487_at x0 x1 x2 x3 x4 x5 x6 t k, v425_at x0 x1 x2 x3 x4 x5 x6 t k, v397_at x0 x1 x2 x3 x4 x5 x6 t k]
  rfl

/-- The product over a sequence is the product of its halves, entry by entry. -/
theorem halves {n : Nat} (f : Fin (n + n) → EReal) : ∏ q : Fin n, f (q.castAdd n) * f (q.natAdd n) = ∏ q, f q := by
  rw [Finset.prod_mul_distrib, Fin.prod_univ_add]

/-- Comparing two slot numbers as words is comparing them. -/
theorem slot_lt : ∀ q k : Fin 64, IntOp.cmpi .slt (BitVec.ofNat 32 q.val) (BitVec.ofNat 32 k.val) = BitVec.ofBool (decide (q.val < k.val)) := by
  decide +kernel

/-- The factor of slot `q` in the product of slot `k`. -/
theorem factor_at (q : Fin 64) : val_main_v517 (F := Ideal) x0 x1 x2 x3 x5 (ix5 t i j k q) = if q.val < k.val then 1 - alpha (left t + lane i.val + Spec.lit 0x3F000000#32) (top t + lane j.val + Spec.lit 0x3F000000#32) (slot x0 x1 x2 x3 x4 x5 x6 t q) else 1 := by
  pointwise [val_main_v517, val_main_call8_v3, val_main_call8_v0, val_main_cst_82, val_main_call8_v2, val_main_v516, val_main_v515, val_main_cst_81, val_main_v514, val_main_call8_v1, val_main_v513, val_main_v512, val_main_v510, val_main_v508, val_main_v511, val_main_v509]
  simp only [id_eq]
  pointwise
  simp only [slot_lt, select_ofBool, decide_eq_true_eq, lit_one, cover_at x0 x1 x2 x3 x4 x5 x6]

/-- One halving of the product. -/
theorem half_v520 (q : Fin 32) : val_main_v520 (F := Ideal) x0 x1 x2 x3 x5 (ix5 t i j k q) = val_main_v517 (F := Ideal) x0 x1 x2 x3 x5 (ix5 t i j k (q.castAdd 32)) * val_main_v517 (F := Ideal) x0 x1 x2 x3 x5 (ix5 t i j k (q.natAdd 32)) := by
  pointwise [val_main_v520, val_main_v519, val_main_v518]
  rfl

/-- One halving of the product. -/
theorem half_v523 (q : Fin 16) : val_main_v523 (F := Ideal) x0 x1 x2 x3 x5 (ix5 t i j k q) = val_main_v520 (F := Ideal) x0 x1 x2 x3 x5 (ix5 t i j k (q.castAdd 16)) * val_main_v520 (F := Ideal) x0 x1 x2 x3 x5 (ix5 t i j k (q.natAdd 16)) := by
  pointwise [val_main_v523, val_main_v522, val_main_v521]
  rfl

/-- One halving of the product. -/
theorem half_v526 (q : Fin 8) : val_main_v526 (F := Ideal) x0 x1 x2 x3 x5 (ix5 t i j k q) = val_main_v523 (F := Ideal) x0 x1 x2 x3 x5 (ix5 t i j k (q.castAdd 8)) * val_main_v523 (F := Ideal) x0 x1 x2 x3 x5 (ix5 t i j k (q.natAdd 8)) := by
  pointwise [val_main_v526, val_main_v525, val_main_v524]
  rfl

/-- One halving of the product. -/
theorem half_v529 (q : Fin 4) : val_main_v529 (F := Ideal) x0 x1 x2 x3 x5 (ix5 t i j k q) = val_main_v526 (F := Ideal) x0 x1 x2 x3 x5 (ix5 t i j k (q.castAdd 4)) * val_main_v526 (F := Ideal) x0 x1 x2 x3 x5 (ix5 t i j k (q.natAdd 4)) := by
  pointwise [val_main_v529, val_main_v528, val_main_v527]
  rfl

/-- One halving of the product. -/
theorem half_v532 (q : Fin 2) : val_main_v532 (F := Ideal) x0 x1 x2 x3 x5 (ix5 t i j k q) = val_main_v529 (F := Ideal) x0 x1 x2 x3 x5 (ix5 t i j k (q.castAdd 2)) * val_main_v529 (F := Ideal) x0 x1 x2 x3 x5 (ix5 t i j k (q.natAdd 2)) := by
  pointwise [val_main_v532, val_main_v531, val_main_v530]
  rfl

/-- One halving of the product. -/
theorem half_v535 (q : Fin 1) : val_main_v535 (F := Ideal) x0 x1 x2 x3 x5 (ix5 t i j k q) = val_main_v532 (F := Ideal) x0 x1 x2 x3 x5 (ix5 t i j k (q.castAdd 1)) * val_main_v532 (F := Ideal) x0 x1 x2 x3 x5 (ix5 t i j k (q.natAdd 1)) := by
  pointwise [val_main_v535, val_main_v534, val_main_v533]
  match q with
  | ⟨0, _⟩ => rfl

/-- What the slots before `k` leave. -/
theorem before_at : val_main_v536 (F := Ideal) x0 x1 x2 x3 x5 (ix4 t i j k) = ∏ q : Fin 64, if q.val < k.val then 1 - alpha (left t + lane i.val + Spec.lit 0x3F000000#32) (top t + lane j.val + Spec.lit 0x3F000000#32) (slot x0 x1 x2 x3 x4 x5 x6 t q) else 1 := by
  have h : ∏ q : Fin 64, val_main_v517 (F := Ideal) x0 x1 x2 x3 x5 (ix5 t i j k q) = val_main_v535 (F := Ideal) x0 x1 x2 x3 x5 (ix5 t i j k 0) :=
    (halves (n := 32) fun q => val_main_v517 (F := Ideal) x0 x1 x2 x3 x5 (ix5 t i j k q)).symm.trans <| (Finset.prod_congr rfl fun q _ => (half_v520 x0 x1 x2 x3 x5 t k i j q).symm).trans <|
    (halves (n := 16) fun q => val_main_v520 (F := Ideal) x0 x1 x2 x3 x5 (ix5 t i j k q)).symm.trans <| (Finset.prod_congr rfl fun q _ => (half_v523 x0 x1 x2 x3 x5 t k i j q).symm).trans <|
    (halves (n := 8) fun q => val_main_v523 (F := Ideal) x0 x1 x2 x3 x5 (ix5 t i j k q)).symm.trans <| (Finset.prod_congr rfl fun q _ => (half_v526 x0 x1 x2 x3 x5 t k i j q).symm).trans <|
    (halves (n := 4) fun q => val_main_v526 (F := Ideal) x0 x1 x2 x3 x5 (ix5 t i j k q)).symm.trans <| (Finset.prod_congr rfl fun q _ => (half_v529 x0 x1 x2 x3 x5 t k i j q).symm).trans <|
    (halves (n := 2) fun q => val_main_v529 (F := Ideal) x0 x1 x2 x3 x5 (ix5 t i j k q)).symm.trans <| (Finset.prod_congr rfl fun q _ => (half_v532 x0 x1 x2 x3 x5 t k i j q).symm).trans <|
    (halves (n := 1) fun q => val_main_v532 (F := Ideal) x0 x1 x2 x3 x5 (ix5 t i j k q)).symm.trans <| (Finset.prod_congr rfl fun q _ => (half_v535 x0 x1 x2 x3 x5 t k i j q).symm).trans <|
    Fin.prod_univ_one _
  simp only [factor_at x0 x1 x2 x3 x4 x5 x6] at h
  rw [h]
  pointwise [val_main_v536]

/-- A channel of a pixel. -/
theorem sum_at (l : Fin 3) : val_main_v538 (F := Ideal) x0 x1 x2 x3 x4 x5 x6 (ix4 t i j l) = chan t ⟨i.val * 16 + j.val, by omega⟩ (slot x0 x1 x2 x3 x4 x5 x6 t) l := by
  pointwise [val_main_v538, val_main_v537]
  unfold chan
  refine Finset.sum_congr rfl fun k _ => ?_
  rw [cover_at x0 x1 x2 x3 x4 x5 x6, before_at x0 x1 x2 x3 x4 x5 x6, v432_at x0 x1 x2 x3 x4 x5 x6]
  unfold weight cover
  have h1 : (i.val * 16 + j.val) / 16 = i.val := by omega
  have h2 : (i.val * 16 + j.val) % 16 = j.val := by omega
  simp only [h1, h2]

/-- The image of the reference. -/
theorem image_at (a b : Fin 256) (l : Fin 3) : val_main_v541 (F := Ideal) x0 x1 x2 x3 x4 x5 x6 (ix3 a b l) = chan ⟨a.val / 16 * 16 + b.val / 16, by omega⟩ ⟨a.val % 16 * 16 + b.val % 16, by omega⟩ (slot x0 x1 x2 x3 x4 x5 x6 ⟨a.val / 16 * 16 + b.val / 16, by omega⟩) l := by
  pointwise [val_main_v541, val_main_v540, val_main_v539]
  refine Eq.trans ?_ (sum_at x0 x1 x2 x3 x4 x5 x6 ⟨a.val / 16 * 16 + b.val / 16, by omega⟩ ⟨a.val % 16, by omega⟩ ⟨b.val % 16, by omega⟩ l)
  rfl

end Cert.Proof.R
-- ==== Proof.Equal.lean ====
/- The kernel's slots and the reference's slots give the same image. -/
module

public import proofs.«01_k».proof.Proof.KOut
public import proofs.«01_k».proof.Proof.RefBlend

@[expose] public section

set_option maxRecDepth 16384
set_option maxHeartbeats 4000000

noncomputable section

namespace Cert.Proof

open Idealize.ShloMosaic Idealize.ShloMosaic.TcCoe
open Idealize.SL Idealize.SL.Sem

/-- Slots that are empty on both sides or hold the same numbers give the same channel. -/
theorem chan_congr (t p : Fin 256) (l : Fin 3) (g g' : Fin 64 → Fin 16 → EReal)
    (h : ∀ k, (g k 6 = 0 ∧ g' k 6 = 0) ∨ (g k 0 = g' k 0 ∧ g k 1 = g' k 1 ∧ g k 2 = g' k 2 ∧ g k 3 = g' k 3 ∧ g k 4 = g' k 4 ∧ g k 5 = g' k 5 ∧ g k 6 = g' k 6
      ∧ g k 8 = g' k 8 ∧ g k 9 = g' k 9 ∧ g k 10 = g' k 10)) :
    chan t p g l = chan t p g' l := by
  have hc : ∀ k, cover t p g k = cover t p g' k := by
    intro k
    unfold cover alpha
    rcases h k with ⟨h1, h2⟩ | ⟨h0, h1, h2, h3, h4, h5, h6, -⟩
    · rw [h1, h2, mul_zero, mul_zero]
    · rw [h0, h1, h2, h3, h4, h5, h6]
  have hw : ∀ k, weight t p g k = weight t p g' k := by
    intro k
    unfold weight
    simp only [hc]
  unfold chan
  refine Finset.sum_congr rfl fun k _ => ?_
  rcases h k with ⟨h1, h2⟩ | ⟨-, -, -, -, -, -, -, h8, h9, h10⟩
  · have z : weight t p g' k = 0 := by unfold weight cover alpha; rw [h2, mul_zero, zero_mul]
    rw [hw, z, zero_mul, zero_mul]
  · rw [hw]
    refine congrArg (weight t p g' k * ·) ?_
    match l with
    | ⟨0, _⟩ => exact h8
    | ⟨1, _⟩ => exact h9
    | ⟨2, _⟩ => exact h10

/-- The score of a splat that does not meet a tile is below the score that a taken slot exceeds. -/
theorem lit_lt : Spec.lit 0xD01502F9#32 < Spec.lit 0xCE6E6B28#32 := by
  simp [Spec.lit, Ideal.ofBits, Ideal.ieee, -EReal.coe_mul, -EReal.coe_neg]
  norm_num

/-- The number of a false truth value. -/
theorem uitofp_false : (FloatOps.uitofp (F := Ideal) .f32 (BitVec.ofBool false) : EReal) = 0 := by
  show (((BitVec.ofBool false).toNat : ℝ) : EReal) = 0
  simp

open Cert.KernelIdeal Cert.KernelIdeal.Gen

section slots

variable (x0 x1 : S100000x3.Idx → EReal) (x2 : S100000x4.Idx → EReal) (x3 : S100000.Idx → EReal)
  (x4 : S100000x16x3.Idx → EReal) (x5 : S4x4.Idx → EReal) (x6 : S3.Idx → EReal)
/-- Entry 0 of a row. -/
theorem R.row_0 (f : Fin 16 → EReal) (v : EReal) : R.row f v 0 = f 0 := rfl

/-- Number 0 of a slot. -/
theorem R.slot_0 (t : Fin 256) (k : Fin 64) : R.slot x0 x1 x2 x3 x4 x5 x6 t k 0 = Spec.feat (R.G x0 x1 x2 x3 x4 (R.pickR x0 x1 x2 x5 t k)) (R.C x5 x6) 0 := by
  unfold R.slot
  exact R.row_0 _ _

/-- Entry 1 of a row. -/
theorem R.row_1 (f : Fin 16 → EReal) (v : EReal) : R.row f v 1 = f 1 := rfl

/-- Number 1 of a slot. -/
theorem R.slot_1 (t : Fin 256) (k : Fin 64) : R.slot x0 x1 x2 x3 x4 x5 x6 t k 1 = Spec.feat (R.G x0 x1 x2 x3 x4 (R.pickR x0 x1 x2 x5 t k)) (R.C x5 x6) 1 := by
  unfold R.slot
  exact R.row_1 _ _

/-- Entry 2 of a row. -/
theorem R.row_2 (f : Fin 16 → EReal) (v : EReal) : R.row f v 2 = f 4 := rfl

/-- Number 2 of a slot. -/
theorem R.slot_2 (t : Fin 256) (k : Fin 64) : R.slot x0 x1 x2 x3 x4 x5 x6 t k 2 = Spec.feat (R.G x0 x1 x2 x3 x4 (R.pickR x0 x1 x2 x5 t k)) (R.C x5 x6) 4 := by
  unfold R.slot
  exact R.row_2 _ _

/-- Entry 3 of a row. -/
theorem R.row_3 (f : Fin 16 → EReal) (v : EReal) : R.row f v 3 = f 5 := rfl

/-- Number 3 of a slot. -/
theorem R.slot_3 (t : Fin 256) (k : Fin 64) : R.slot x0 x1 x2 x3 x4 x5 x6 t k 3 = Spec.feat (R.G x0 x1 x2 x3 x4 (R.pickR x0 x1 x2 x5 t k)) (R.C x5 x6) 5 := by
  unfold R.slot
  exact R.row_3 _ _

/-- Entry 4 of a row. -/
theorem R.row_4 (f : Fin 16 → EReal) (v : EReal) : R.row f v 4 = f 6 := rfl

/-- Number 4 of a slot. -/
theorem R.slot_4 (t : Fin 256) (k : Fin 64) : R.slot x0 x1 x2 x3 x4 x5 x6 t k 4 = Spec.feat (R.G x0 x1 x2 x3 x4 (R.pickR x0 x1 x2 x5 t k)) (R.C x5 x6) 6 := by
  unfold R.slot
  exact R.row_4 _ _

/-- Entry 5 of a row. -/
theorem R.row_5 (f : Fin 16 → EReal) (v : EReal) : R.row f v 5 = f 7 := rfl

/-- Number 5 of a slot. -/
theorem R.slot_5 (t : Fin 256) (k : Fin 64) : R.slot x0 x1 x2 x3 x4 x5 x6 t k 5 = Spec.feat (R.G x0 x1 x2 x3 x4 (R.pickR x0 x1 x2 x5 t k)) (R.C x5 x6) 7 := by
  unfold R.slot
  exact R.row_5 _ _

/-- Entry 8 of a row. -/
theorem R.row_8 (f : Fin 16 → EReal) (v : EReal) : R.row f v 8 = f 8 := rfl

/-- Number 8 of a slot. -/
theorem R.slot_8 (t : Fin 256) (k : Fin 64) : R.slot x0 x1 x2 x3 x4 x5 x6 t k 8 = Spec.feat (R.G x0 x1 x2 x3 x4 (R.pickR x0 x1 x2 x5 t k)) (R.C x5 x6) 8 := by
  unfold R.slot
  exact R.row_8 _ _

/-- Entry 9 of a row. -/
theorem R.row_9 (f : Fin 16 → EReal) (v : EReal) : R.row f v 9 = f 9 := rfl

/-- Number 9 of a slot. -/
theorem R.slot_9 (t : Fin 256) (k : Fin 64) : R.slot x0 x1 x2 x3 x4 x5 x6 t k 9 = Spec.feat (R.G x0 x1 x2 x3 x4 (R.pickR x0 x1 x2 x5 t k)) (R.C x5 x6) 9 := by
  unfold R.slot
  exact R.row_9 _ _

/-- Entry 10 of a row. -/
theorem R.row_10 (f : Fin 16 → EReal) (v : EReal) : R.row f v 10 = f 10 := rfl

/-- Number 10 of a slot. -/
theorem R.slot_10 (t : Fin 256) (k : Fin 64) : R.slot x0 x1 x2 x3 x4 x5 x6 t k 10 = Spec.feat (R.G x0 x1 x2 x3 x4 (R.pickR x0 x1 x2 x5 t k)) (R.C x5 x6) 10 := by
  unfold R.slot
  exact R.row_10 _ _

/-- Entry 6 of a row. -/
theorem R.row_6 (f : Fin 16 → EReal) (v : EReal) : R.row f v 6 = v := rfl

/-- Number 6 of a slot. -/
theorem R.slot_6 (t : Fin 256) (k : Fin 64) : R.slot x0 x1 x2 x3 x4 x5 x6 t k 6 = FloatOps.uitofp (F := Ideal) .f32 (BitVec.ofBool (decide (Spec.lit 0xCE6E6B28#32 < Cert.ReferenceIdeal.Read.val_main_v394 (F := Ideal) x0 x1 x2 x5 (ix2 t (R.pickR x0 x1 x2 x5 t k))))) := by
  unfold R.slot
  exact R.row_6 _ _

variable (s : S256x100352.Idx → EReal) (f : S16x100352.Idx → EReal) (x : S256x64x16.Idx → EReal)

/-- If the kernel's scores and features are those of the splats, followed by columns that meet no tile, and its packed array
    holds the chosen columns' features, then the packed slots blend to what the reference's slots blend to. -/
theorem chan_eq (t p : Fin 256) (l : Fin 3)
    (hs : ∀ n, s (ix2 t n) = score (fun r => f (ix2 r n)) t)
    (hf : ∀ (n : Fin 100000) (r : Fin 16), f (ix2 r (n.castLE (by decide))) = Spec.feat (R.G x0 x1 x2 x3 x4 n) (R.C x5 x6) r)
    (hp : ∀ n : Fin 100352, ¬ n.val < 100000 → score (fun r => f (ix2 r n)) t = Spec.lit 0xD01502F9#32)
    (h0 : ∀ k, x (ix3 t k 0) = f (ix2 0 (pick s t k)))
    (h1 : ∀ k, x (ix3 t k 1) = f (ix2 1 (pick s t k)))
    (h2 : ∀ k, x (ix3 t k 2) = f (ix2 4 (pick s t k)))
    (h3 : ∀ k, x (ix3 t k 3) = f (ix2 5 (pick s t k)))
    (h4 : ∀ k, x (ix3 t k 4) = f (ix2 6 (pick s t k)))
    (h5 : ∀ k, x (ix3 t k 5) = f (ix2 7 (pick s t k)))
    (h8 : ∀ k, x (ix3 t k 8) = f (ix2 8 (pick s t k)))
    (h9 : ∀ k, x (ix3 t k 9) = f (ix2 9 (pick s t k)))
    (h10 : ∀ k, x (ix3 t k 10) = f (ix2 10 (pick s t k)))
    (h6 : ∀ k, x (ix3 t k 6) = FloatOps.uitofp (F := Ideal) .f32 (BitVec.ofBool (decide (Spec.lit 0xCE6E6B28#32 < s (ix2 t (pick s t k)))))) :
    chan t p (fun k j => x (ix3 t k j)) l = chan t p (R.slot x0 x1 x2 x3 x4 x5 x6 t) l := by
  classical
  have hle : 100000 ≤ 100352 := by decide
  have hv : ∀ n : Fin 100000, s (ix2 t (n.castLE hle)) = Cert.ReferenceIdeal.Read.val_main_v394 (F := Ideal) x0 x1 x2 x5 (ix2 t n) := fun n => by
    rw [hs, R.score_at x0 x1 x2 x3 x4 x5 x6 n t]
    exact congrArg (fun g => score g t) (funext fun r => hf n r)
  have hc : ∀ n : Fin 100352, 100000 ≤ n.val → s (ix2 t n) = Spec.lit 0xD01502F9#32 := fun n hn => by
    rw [hs, hp n (by omega)]
  refine chan_congr t p l _ _ fun k => ?_
  by_cases hk : Spec.lit 0xD01502F9#32 ≤ Cert.ReferenceIdeal.Read.val_main_v394 (F := Ideal) x0 x1 x2 x5 (ix2 t (R.pickR x0 x1 x2 x5 t k))
  · right
    have e : pick s t k = (R.pickR x0 x1 x2 x5 t k).castLE hle :=
      sel_pad hle (fun n => Cert.ReferenceIdeal.Read.val_main_v394 (F := Ideal) x0 x1 x2 x5 (ix2 t n)) (fun n => s (ix2 t n)) _ hv hc (k.castLE (by decide)) hk
    refine ⟨?_, ?_, ?_, ?_, ?_, ?_, ?_, ?_, ?_, ?_⟩
    · exact (h0 k).trans (by rw [e, hf]; exact (R.slot_0 x0 x1 x2 x3 x4 x5 x6 t k).symm)
    · exact (h1 k).trans (by rw [e, hf]; exact (R.slot_1 x0 x1 x2 x3 x4 x5 x6 t k).symm)
    · exact (h2 k).trans (by rw [e, hf]; exact (R.slot_2 x0 x1 x2 x3 x4 x5 x6 t k).symm)
    · exact (h3 k).trans (by rw [e, hf]; exact (R.slot_3 x0 x1 x2 x3 x4 x5 x6 t k).symm)
    · exact (h4 k).trans (by rw [e, hf]; exact (R.slot_4 x0 x1 x2 x3 x4 x5 x6 t k).symm)
    · exact (h5 k).trans (by rw [e, hf]; exact (R.slot_5 x0 x1 x2 x3 x4 x5 x6 t k).symm)
    · exact (h6 k).trans (by rw [e, hv]; exact (R.slot_6 x0 x1 x2 x3 x4 x5 x6 t k).symm)
    · exact (h8 k).trans (by rw [e, hf]; exact (R.slot_8 x0 x1 x2 x3 x4 x5 x6 t k).symm)
    · exact (h9 k).trans (by rw [e, hf]; exact (R.slot_9 x0 x1 x2 x3 x4 x5 x6 t k).symm)
    · exact (h10 k).trans (by rw [e, hf]; exact (R.slot_10 x0 x1 x2 x3 x4 x5 x6 t k).symm)
  · left
    have hk := not_le.mp hk
    have hk' : s (ix2 t (pick s t k)) ≤ Spec.lit 0xD01502F9#32 :=
      sel_pad_le hle (fun n => Cert.ReferenceIdeal.Read.val_main_v394 (F := Ideal) x0 x1 x2 x5 (ix2 t n)) (fun n => s (ix2 t n)) _ hv hc (k.castLE (by decide)) hk
    constructor
    · show x (ix3 t k 6) = 0
      rw [h6, decide_eq_false (not_lt.mpr (hk'.trans lit_lt.le))]
      exact uitofp_false
    · show FloatOps.uitofp (F := Ideal) .f32 (BitVec.ofBool (decide (Spec.lit 0xCE6E6B28#32 < _))) = (0 : EReal)
      rw [decide_eq_false (not_lt.mpr (hk.trans lit_lt).le)]
      exact uitofp_false

end slots

variable (m : (ℓ : Loc nD τ sig) → Buf (Elt Ideal) ℓ) (ρ : Dev nD → PrngReg) (c : Dev nD)

/-- The kernel's image is the reference's, of the same arguments. -/
theorem image_eq (a b : Fin 256) (l : Fin 3) :
    (W24 m ρ c (Proc.devRef .tc main_v131) : S256x256x3.Idx → EReal) (ix3 a b l)
      = Cert.ReferenceIdeal.Read.val_main_v541 (F := Ideal)
          (W0 m ρ c (Proc.devRef .tc main_arg0) : S100000x3.Idx → EReal) (W0 m ρ c (Proc.devRef .tc main_arg1) : S100000x3.Idx → EReal)
          (W0 m ρ c (Proc.devRef .tc main_arg2) : S100000x4.Idx → EReal) (W0 m ρ c (Proc.devRef .tc main_arg3) : S100000.Idx → EReal)
          (W0 m ρ c (Proc.devRef .tc main_arg4) : S100000x16x3.Idx → EReal) (W0 m ρ c (Proc.devRef .tc main_arg5) : S4x4.Idx → EReal)
          (W0 m ρ c (Proc.devRef .tc main_arg6) : S3.Idx → EReal) (ix3 a b l) := by
  refine (image_k m ρ c a b l).trans (Eq.trans ?_ (R.image_at _ _ _ _ _ _ _ a b l).symm)
  have hv := v25_kept m ρ c
  refine chan_eq _ _ _ _ _ _ _ (W20 m ρ c (Proc.devRef .tc main_v81)) (W14 m ρ c (Proc.devRef .tc main_v25))
    (W22 m ρ c (Proc.devRef .tc main_v127)) _ _ l (fun n => score_k m ρ c _ n) (fun n r => feat_in m ρ c n r)
    (fun n hn => feat_pad m ρ c n hn _) ?_ ?_ ?_ ?_ ?_ ?_ ?_ ?_ ?_ ?_
  · exact fun k => (pack_0 (W20 m ρ c) _ k).trans (congrFun hv _)
  · exact fun k => (pack_1 (W20 m ρ c) _ k).trans (congrFun hv _)
  · exact fun k => (pack_2 (W20 m ρ c) _ k).trans (congrFun hv _)
  · exact fun k => (pack_3 (W20 m ρ c) _ k).trans (congrFun hv _)
  · exact fun k => (pack_4 (W20 m ρ c) _ k).trans (congrFun hv _)
  · exact fun k => (pack_5 (W20 m ρ c) _ k).trans (congrFun hv _)
  · exact fun k => (pack_8 (W20 m ρ c) _ k).trans (congrFun hv _)
  · exact fun k => (pack_9 (W20 m ρ c) _ k).trans (congrFun hv _)
  · exact fun k => (pack_10 (W20 m ρ c) _ k).trans (congrFun hv _)
  · exact fun k => pack_6 (W20 m ρ c) _ k

end Cert.Proof
-- ==== Proof.Result.lean ====
/- The two results are one array: the kernel's image and the reference's, from memories that agree on the arguments. -/
module

public import proofs.«01_k».proof.Proof.Run
public import proofs.«01_k».proof.Proof.Equal

@[expose] public section

set_option maxRecDepth 16384

noncomputable section

namespace Cert.Proof

open Idealize.ShloMosaic Idealize.ShloMosaic.TcCoe
open Idealize.SL Idealize.SL.Sem
open Cert.KernelIdeal Cert.KernelIdeal.Gen

variable (m : (ℓ : Loc nD τ sig) → Buf (Elt Ideal) ℓ) (ρ : Dev nD → PrngReg) (c : Dev nD)

/-- The reference's image of arrays that are the kernel's arguments is the kernel's image. -/
theorem result_eq (x0 x1 : S100000x3.Idx → EReal) (x2 : S100000x4.Idx → EReal) (x3 : S100000.Idx → EReal)
    (x4 : S100000x16x3.Idx → EReal) (x5 : S4x4.Idx → EReal) (x6 : S3.Idx → EReal)
    (h0 : x0 = W0 m ρ c (Proc.devRef .tc main_arg0)) (h1 : x1 = W0 m ρ c (Proc.devRef .tc main_arg1))
    (h2 : x2 = W0 m ρ c (Proc.devRef .tc main_arg2)) (h3 : x3 = W0 m ρ c (Proc.devRef .tc main_arg3))
    (h4 : x4 = W0 m ρ c (Proc.devRef .tc main_arg4)) (h5 : x5 = W0 m ρ c (Proc.devRef .tc main_arg5))
    (h6 : x6 = W0 m ρ c (Proc.devRef .tc main_arg6)) :
    Cert.ReferenceIdeal.Read.val_main_v541 (F := Ideal) x0 x1 x2 x3 x4 x5 x6
      = (W24 m ρ c (Proc.devRef .tc main_v131) : S256x256x3.Idx → EReal) := by
  rw [h0, h1, h2, h3, h4, h5, h6]
  funext i
  have e := eq_ix3 i
  rw [e]
  exact (image_eq m ρ c (i 0) (i 1) (i 2)).symm

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Ref
public import proofs.«01_k».proof.Proof.Result
public import Idealize.ShloMosaic.Lib.Claim
public import Idealize.ShloMosaic.Adequacy
public import Idealize.ShloMosaic.Init

@[expose] public section

noncomputable section

namespace Cert.Proof

open Idealize.ShloMosaic Idealize.SL.Sem

/-- The reference runs, its arguments end unchanged and every semaphore counter is zero. -/
theorem reference_frame : Cert.quiescent_ReferenceIdeal (hReferenceIdeal := Cert.ReferenceIdeal.Gen.facts) := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The idealized kernel and the idealized reference end with the same image. -/
theorem same_image : Cert.algebraic_KernelIdeal_ReferenceIdeal (hKernelIdeal := Cert.KernelIdeal.Gen.facts)
    (hReferenceIdeal := Cert.ReferenceIdeal.Gen.facts) := by
  intro m g m' g' _ hagree
  refine ⟨fun c => Cert.KernelIdeal.Gen.W24 m g c (Proc.devRef .tc Cert.KernelIdeal.main_v131), kernel_run m g, ?_⟩
  refine (θ_run Cert.ReferenceIdeal.defs _ _).mono (fun r h c => ⟨?_, (h c).2⟩) (Cert.ReferenceIdeal.Value.run (F := Ideal) m' g')
  obtain ⟨h0, h1, h2, h3, h4, h5, h6⟩ := hagree c
  exact (h c).1.trans ((Cert.ReferenceIdeal.Read.val_main_v541_eq (F := Ideal) (StableHlo.launchContents m' c)).trans
    (result_eq m g c _ _ _ _ _ _ _ h0 h1 h2 h3 h4 h5 h6))

/-- All five claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial, same_image⟩

end Cert.Proof

end
